-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4x512x2048 : Shape := ⟨3, ![4, 512, 2048]⟩
abbrev S2x256x4096 : Shape := ⟨3, ![2, 256, 4096]⟩
abbrev S2x512x2048 : Shape := ⟨3, ![2, 512, 2048]⟩
abbrev S8 : Shape := ⟨1, ![8]⟩
abbrev S10 : Shape := ⟨1, ![10]⟩
abbrev S4 : Shape := ⟨1, ![4]⟩
abbrev S_ : Shape := ⟨0, ![]⟩
abbrev S1x256x4096 : Shape := ⟨3, ![1, 256, 4096]⟩
abbrev S256x4096 : Shape := ⟨2, ![256, 4096]⟩
abbrev S512x4096 : Shape := ⟨2, ![512, 4096]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩

abbrev nBuf : Space → Nat
  | .hbm => 5
  | .vmem => 8
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x4096, .fp8e4m3⟩
  | .local _ .vmem, ⟨3, _⟩ => ⟨S4x512x2048, .f32⟩
  | .local _ .vmem, ⟨4, _⟩ => ⟨S2x256x4096, .f32⟩
  | .local _ .vmem, ⟨5, _⟩ => ⟨S1024x4096, .fp8e4m3⟩
  | .local _ .vmem, ⟨6, _⟩ => ⟨S2x512x2048, .f32⟩
  | .local _ .vmem, ⟨7, _⟩ => ⟨S4096x2048, .fp8e5m2⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_47 : BitVec 32 := 1#32
  let v51 : BitVec 32 := Scalar.muli v6 c1_i32_47
  let v52 : BitVec 32 := Scalar.addi c0_i32_48 v51
  v52.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_55 : BitVec 32 := 1#32
  let v59 : BitVec 32 := Scalar.muli v4 c1_i32_55
  let v60 : BitVec 32 := Scalar.addi c0_i32_56 v59
  v60.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_88 : BitVec 32 := 1#32
  let v94 : BitVec 32 := Scalar.muli v6 c1_i32_88
  let v95 : BitVec 32 := Scalar.addi c0_i32_89 v94
  v95.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_96 : BitVec 32 := 1#32
  let v102 : BitVec 32 := Scalar.muli v4 c1_i32_96
  let v103 : BitVec 32 := Scalar.addi c0_i32_97 v102
  v103.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_228 : BitVec 32 := 1024#32
  let v241 : BitVec 32 := Scalar.muli v2 c1024_i32_228
  let c0_i32_239 : BitVec 32 := 0#32
  ![v241.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_242 : BitVec 32 := 1024#32
  let v257 : BitVec 32 := Scalar.muli v2 c1024_i32_242
  let c512_i32_243 : BitVec 32 := 512#32
  let v258 : BitVec 32 := Scalar.addi v257 c512_i32_243
  let c0_i32_255 : BitVec 32 := 0#32
  ![v258.toNat, 0]
def k0_dev7 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_268 : BitVec 32 := 1#32
  let v280 : BitVec 32 := Scalar.muli v6 c1_i32_268
  let v281 : BitVec 32 := Scalar.addi c0_i32_269 v280
  v281.toNat
def k0_dev8 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_275 : BitVec 32 := 1#32
  let v288 : BitVec 32 := Scalar.muli v6 c1_i32_275
  let v289 : BitVec 32 := Scalar.addi c0_i32_276 v288
  v289.toNat
def k0_off3 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c1024_i32_281 : BitVec 32 := 1024#32
  let v296 : BitVec 32 := Scalar.muli v4 c1024_i32_281
  let c0_i32_292 : BitVec 32 := 0#32
  ![v296.toNat, 0]
def k0_dev9 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_304 : BitVec 32 := 1#32
  let v318 : BitVec 32 := Scalar.muli v4 c1_i32_304
  let v319 : BitVec 32 := Scalar.addi c0_i32_305 v318
  v319.toNat
def k0_dev10 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_311 : BitVec 32 := 1#32
  let v326 : BitVec 32 := Scalar.muli v4 c1_i32_311
  let v327 : BitVec 32 := Scalar.addi c0_i32_312 v326
  v327.toNat
def k0_off4 (d0 : Dev nD) (c1_i32_1 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c1_i32_1
  let c4_i32_2 : BitVec 32 := 4#32
  let v6 : BitVec 32 := Scalar.remsi v5 c4_i32_2
  let c1024_i32_317 : BitVec 32 := 1024#32
  let v334 : BitVec 32 := Scalar.muli v6 c1024_i32_317
  let c512_i32_318 : BitVec 32 := 512#32
  let v335 : BitVec 32 := Scalar.addi v334 c512_i32_318
  let c0_i32_329 : BitVec 32 := 0#32
  ![v335.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1024_i32_411 : BitVec 32 := 1024#32
  let v427 : BitVec 32 := Scalar.muli v8 c1024_i32_411
  let c0_i32_414 : BitVec 32 := 0#32
  ![v427.toNat, 0]
def k0_off6 (d0 : Dev nD) (c512_i32_440 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1024_i32_439 : BitVec 32 := 1024#32
  let v454 : BitVec 32 := Scalar.muli v8 c1024_i32_439
  let v455 : BitVec 32 := Scalar.addi v454 c512_i32_440
  let c0_i32_443 : BitVec 32 := 0#32
  ![v455.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Windows.lean ====
/-
# 01_k — `Windows`: a kernel's memory operations one window at a time

The rules of the logic in terms of `owns`: a core holds a rectangle of a buffer (a memref's slice) at what the
slice reads, and a load, a store, a local copy or a copy to another device acts on the rectangle alone.  Then how
rectangles of one buffer split and rejoin.
-/
module

public import Idealize.ShloMosaic.Lib.Memref
public import Idealize.ShloMosaic.Lib.Transfers
public import Idealize.ShloMosaic.Lib.Rounds
public import Idealize.ShloMosaic.Lib.Tactic

@[expose] public section

noncomputable section

namespace Cert.Windows

open Idealize.ShloMosaic
open Idealize.SL Idealize.SL.RA
open Idealize.SL.BI (sProp Storable bigSep)
open scoped Idealize.SL.BI
open Idealize.SL.BI.BIBase Idealize.SL.BI.Laws Idealize.SL.ProofMode Idealize.SL.Sem
open Idealize.ShloMosaic.Rounds Idealize.ShloMosaic.Transfers
open PCS

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Core `c` owns the memref's elements, whatever they hold. -/
def anyAt (c : Thread nD τ) {sp : Space} {sh : Shape} {e : EltTy} (m : Memref sig c.2.kind sp sh e) : sProp 𝕄 :=
  iprop(∃ X, owns c m fullShare X)

instance anyAt_storable (c : Thread nD τ) {sp : Space} {sh : Shape} {e : EltTy} (m : Memref sig c.2.kind sp sh e) :
    Storable (upEmb : UEmb _ 𝕄) (anyAt c m) := by
  unfold anyAt; infer_instance

/-- Whatever it reads, an owned memref is owned at some contents. -/
theorem anyAt_of_owns (c : Thread nD τ) {sp : Space} {sh : Shape} {e : EltTy} (m : Memref sig c.2.kind sp sh e)
    (X : sh.Idx → Val e) : (owns c m fullShare X : sProp 𝕄) ⊢ anyAt c m := by
  unfold anyAt; iintro H; iexists X; iexact H

section Rules

variable {Λ : Labels} [Preorder Lvl]
variable {defs : Defs nD τ sig Val Λ} (𝒱 : Variants) (c : Thread nD τ) (bd : Option 𝒱.V)
variable {α : Type} {Q : α → sProp (MT nD τ sig Ix Val Name U Lvl)}
variable {sp sp' : Space} {s s₀ : Shape} {e : EltTy}

/-- The two halves of an owned memref's share. -/
theorem owns_share (m : Memref sig c.2.kind sp s e) {q q₁ q₂ : PosShare TreeShare} (h : q ∈ q₁ ·? q₂) (X : s.Idx → Val e) :
    (owns c m q X : sProp 𝕄) ⊢ iprop(owns c m q₁ X ∗ owns c m q₂ X) := by
  unfold owns
  iintro ⟨%f, %hf, H⟩
  ihave H := (pointsTo_share h).1 $$ H
  icases H with ⟨H₁, H₂⟩
  isplitl [H₁]
  · iexists f; isplitr; · ipureintro; exact hf
    iexact H₁
  · iexists f; isplitr; · ipureintro; exact hf
    iexact H₂

/-- Two shares of a memref owned at the same contents rejoin. -/
theorem owns_unshare (m : Memref sig c.2.kind sp s e) {q q₁ q₂ : PosShare TreeShare} (h : q ∈ q₁ ·? q₂) (X : s.Idx → Val e) :
    iprop(owns c m q₁ X ∗ owns c m q₂ X) ⊢ (owns c m q X : sProp 𝕄) := by
  unfold owns
  iintro ⟨⟨%f, %hf, H₁⟩, ⟨%g, %hg, H₂⟩⟩
  have hfg : ∀ i ∈ m.view.set, g i = f i := fun i hi => by
    rw [View.set, Finset.mem_map] at hi
    obtain ⟨x, -, rfl⟩ := hi
    have := congrFun (hg.trans hf.symm) x
    simp only [View.read] at this
    exact (cast_inj _).mp this
  ihave H₂ := (Entails.of_eq (pointsTo_congr (ℓ := m.view.loc c) (f := g) (g := f) hfg)) $$ H₂
  iexists f
  isplitr; · ipureintro; exact hf
  iapply (pointsTo_share h).2
  isplitl [H₁] <;> iassumption

/-- A memref seen at a squeezed shape: owned at the recast contents. -/
theorem owns_squeeze (m : Memref sig c.2.kind sp s e) {s' : Shape} (h : s.Squeezes s') (hc : s.ShapeCasts s')
    (q : PosShare TreeShare) (X : s.Idx → Val e) :
    (owns c m q X : sProp 𝕄) ⊢ owns c (m.squeeze s' h) q (shapeCast s' X hc) := by
  unfold owns
  iintro ⟨%f, %hf, H⟩
  iexists f
  isplitr
  · ipureintro; subst hf; rfl
  · rw [show (m.squeeze s' h).view.set = m.view.set from View.set_reshape _ _]; iexact H

/-- The memref itself from its squeezed form: owned at the contents recast back. -/
theorem owns_unsqueeze (m : Memref sig c.2.kind sp s e) {s' : Shape} (h : s.Squeezes s') (hc : s'.ShapeCasts s)
    (q : PosShare TreeShare) (X : s'.Idx → Val e) :
    (owns c (m.squeeze s' h) q X : sProp 𝕄) ⊢ owns c m q (shapeCast s X hc) := by
  unfold owns
  iintro ⟨%f, %hf, H⟩
  iexists f
  isplitr
  · ipureintro; subst hf
    funext j
    show m.view.read Val f j = m.view.read Val f (Shape.reshapeEquiv _ (Shape.reshapeEquiv hc j))
    congr 1
    exact (Equiv.symm_apply_apply (Shape.reshapeEquiv hc) j).symm
  · rw [show (m.squeeze s' h).view.set = m.view.set from View.set_reshape _ _]; iexact H

/-- A load of a window the core owns reads the window's contents. -/
theorem wp_load_window {cs : CoreSpace} {m : Memref sig c.2.kind cs s e} {r : Rect s} (hr : ∀ a, r.stride a = 1)
    {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  unfold owns
  iintro ⟨%f, %hf, H⟩ Hk
  iapply (wp_load_rect 𝒱 c bd Set.univ (r := r) (hl := hl) subset_rfl) $$ H
  iintro H
  rw [show (m.access r).read Val f = X from hf]
  iapply Hk
  iexists f
  isplitr; · ipureintro; exact hf
  iexact H

/-- A store over a whole window the core owns: the window holds what is stored. -/
theorem wp_store_window {cs : CoreSpace} {m : Memref sig c.2.kind cs s e} {r : Rect s} (hr : ∀ a, r.stride a = 1)
    {w : r.shape.Idx → Val e} {hx : (m.access r).Stores Finset.univ} {hm}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (r := r) (w := w) (Mk := Finset.univ) (hx := hx) (hm := hm) (S := (m.access r).set)
    (by rw [View.setOn_univ])) $$ H
  iintro H
  iapply Hk
  iexists (m.access r).write Val f w Finset.univ
  isplitr; · ipureintro; exact View.read_write_univ ..
  iexact H

/-- A window whose contents do not matter is read (the value unused) and then stored over. -/
theorem wp_overwrite {cs : CoreSpace} {m : Memref sig c.2.kind cs s e} {r : Rect s} (hr : ∀ a, r.stride a = 1)
    {hl : m.view.LoadsAt r.toLoadRect}
    {w : r.shape.Idx → Val e} {hx : (m.access r).Stores Finset.univ} {hm}
    {k : PUnit → Prog (TpuEff nD τ sig Val Λ c.2) α} :
    (anyAt c (m.slice r hr) : sProp 𝕄)
      ⊢ iprop((owns c (m.slice r hr) fullShare w -∗ wp frame (wpE defs 𝒱 c bd) Set.univ (k ⟨⟩) Q)
        -∗ wp frame (wpE defs 𝒱 c bd) Set.univ (.op (.load m r.toLoadRect hl) fun _ => .op (.store m r w Finset.univ hx hm) k) Q) := by
  unfold anyAt
  iintro ⟨%X, H⟩ Hk
  iapply (wp_load_window 𝒱 c bd hr) $$ H
  iintro H
  iapply (wp_store_window 𝒱 c bd hr) $$ H
  iexact Hk

/-- A local copy is issued from a window at `X` into a window of any contents, on a semaphore at zero: its wait
will hand both back, the destination holding `X`. -/
theorem wp_copy_start [Infinite Name] (EC : UEmb Counters 𝕄) [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e} (ι : Ix)
    (hN0 : 0 < dst.view.amount sm) :
    iprop(owns c src q X ∗ anyAt c dst ∗ semVal (c, sm) 0)
      ⊢ iprop((Flight EC c sm ι (dst.view.amount sm) iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  have hD : ∀ (f : Buf Val (src.view.loc c)) (g : Buf Val (dst.view.loc c)), src.view.read Val f = X →
      iprop((dst.view.loc c ↦[dst.view.set]{fullShare} (dst.view.write Val g (ReadAs.same.apply (src.view.read Val f)) Finset.univ))
          ∗ (src.view.loc c ↦[src.view.set]{q} f)) ⊢ (iprop(owns c dst fullShare X ∗ owns c src q X) : sProp 𝕄) := by
    intro f g hf
    unfold owns
    iintro ⟨Hd, Hs⟩
    isplitl [Hd]
    · iexists _
      isplitr
      rotate_left 1
      · iexact Hd
      · ipureintro; rw [View.read_write_univ]; exact hf
    · iexists f
      isplitr; · ipureintro; exact hf
      iexact Hs
  unfold anyAt
  iintro ⟨Hs, ⟨%Y, Hd⟩, Hv⟩ Hk
  ihave Hs := (show owns c src q X ⊢ iprop(∃ f, ⌜src.view.read Val f = X⌝ ∗ (src.view.loc c ↦[src.view.set]{q} f)) from .rfl) $$ Hs
  ihave Hd := (show owns c dst fullShare Y ⊢ iprop(∃ f, ⌜dst.view.read Val f = Y⌝ ∗ (dst.view.loc c ↦[dst.view.set]{fullShare} f)) from .rfl) $$ Hd
  icases Hs with ⟨%f, %hf, Hs⟩
  icases Hd with ⟨%g, %hg, Hd⟩
  iapply (wp_dmaLocal EC 𝒱 c bd ι (dst.view.amount sm) rfl hN0 subset_rfl) $$ [Hs Hd Hv]
  · isplitl [Hs]; · iexact Hs
    isplitl [Hd] <;> iassumption
  iintro HF
  iapply Hk
  iapply (Flight_mono EC c (hD f g hf))
  iexact HF

/-- A copy to another core's window the issuer owns, from a window at `X`: the source share goes into the send
cell's duty, the landed window into the receive cell's. -/
theorem wp_send_window {D : Type} [DecidableEq D] [Infinite Name] (E : Emb (URounds (GSem nD τ sig) D) 𝕄) [E.LandsIn (upEmb : UEmb _ 𝕄)] (Rd : Schedule (GSem nD τ sig) D 𝕄)
    [∀ g r d, Storable (upEmb : UEmb _ 𝕄) (Rd.payload g r d)]
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {d₁ d₂ : D} {κ₁ κ₂ : Name}
    (hd₁ : d₁ ∈ Rd.duties (c, sS) 0) (hd₂ : d₂ ∈ Rd.duties (c', sem) 0)
    (ι ι' : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : owns c src q X ⊢ Rd.payload (c, sS) 0 d₁) (hpay₂ : owns c' dst fullShare X ⊢ Rd.payload (c', sem) 0 d₂)
    (hr : τ.routes c c' = true) :
    iprop(cellInv E Rd κ₁ (c, sS) ∗ cellInv E Rd κ₂ (c', sem)
        ∗ owns c src q X ∗ anyAt c' dst
        ∗ owes c O₀ W
        ∗ dutyTok E (c, sS) 0 d₁ ∗ reached E (c, sS) 0
        ∗ dutyTok E (c', sem) 0 d₂ ∗ reached E (c', sem) 0)
      ⊢ iprop(((cred (tallyAt (c, sS) ι' N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  unfold anyAt
  iintro ⟨#Hi, #Hi', Hs, ⟨%Y, Hd⟩, HO, Ht, Hr, Ht', Hr'⟩ Hk
  ihave Hs := (show owns c src q X ⊢ iprop(∃ f, ⌜src.view.read Val f = X⌝ ∗ (src.view.loc c ↦[src.view.set]{q} f)) from .rfl) $$ Hs
  ihave Hd := (show owns c' dst fullShare Y ⊢ iprop(∃ f, ⌜dst.view.read Val f = Y⌝ ∗ (dst.view.loc c' ↦[dst.view.set]{fullShare} f)) from .rfl) $$ Hd
  icases Hs with ⟨%f, %hf, Hs⟩
  icases Hd with ⟨%g, %hg, Hd⟩
  iapply (Rounds.wp_send_pointsTo 𝒱 E Rd c bd hd₁ hd₂ ι ι' N hN hk₁ hk₂ O hO
    (((hf ▸ owns_intro c src q f : (src.view.loc c ↦[src.view.set]{q} f) ⊢ owns c src q X)).trans hpay₁)
    ((show (dst.view.loc c' ↦[dst.view.set]{fullShare} (dst.view.write Val g (src.view.read Val f) Finset.univ)) ⊢ owns c' dst fullShare X from by
      have h := owns_intro (Ix := Ix) (Name := Name) (U := U) (Lvl := Lvl) c' dst fullShare (dst.view.write Val g (src.view.read Val f) Finset.univ)
      rw [View.read_write_univ] at h; exact hf ▸ h).trans hpay₂) hr) $$ [Hs Hd HO Ht Hr Ht' Hr']
  · isplitr; · iexact Hi
    isplitr; · iexact Hi'
    isplitl [Hs]; · iexact Hs
    isplitl [Hd]; · iexact Hd
    isplitl [HO]; · iexact HO
    isplitl [Ht]; · iexact Ht
    isplitl [Hr]; · iexact Hr
    isplitl [Ht'] <;> iassumption
  iexact Hk

end Rules

section Rects

variable (c : Thread nD τ) {sp : Space} {sh : Shape} {e : EltTy} (m : Memref sig c.2.kind sp sh e)
variable (r r₁ r₂ : Rect sh) (hr : ∀ a, r.stride a = 1) (hr₁ : ∀ a, r₁.stride a = 1) (hr₂ : ∀ a, r₂.stride a = 1)
variable (hd : Disjoint r₁.set r₂.set) (hu : r.set = r₁.set ∪ r₂.set)

include hd hu in
/-- A window that is two others side by side, all at the contents one array has there, is the two. -/
theorem owns_two (q : PosShare TreeShare) (g : m.view.ty.Contents Val) :
    (owns c (m.slice r hr) q (fun j => m.view.read Val g (r.emb j)) : sProp 𝕄)
      ⊣⊢ iprop(owns c (m.slice r₁ hr₁) q (fun j => m.view.read Val g (r₁.emb j))
          ∗ owns c (m.slice r₂ hr₂) q (fun j => m.view.read Val g (r₂.emb j))) := by
  rw [owns_slice_read, owns_slice_read, owns_slice_read, View.set_slice, View.set_slice, View.set_slice, hu, Finset.map_union]
  exact pointsTo_union ((Finset.disjoint_map _).mpr hd)

include hd hu in
/-- A window of any contents splits into the two it is made of. -/
theorem anyAt_split : (anyAt c (m.slice r hr) : sProp 𝕄) ⊢ iprop(anyAt c (m.slice r₁ hr₁) ∗ anyAt c (m.slice r₂ hr₂)) := by
  unfold anyAt
  iintro ⟨%X, H⟩
  ihave H := (show owns c (m.slice r hr) fullShare X ⊢ iprop(∃ f, ⌜(m.slice r hr).view.read Val f = X⌝ ∗ ((m.slice r hr).view.loc c ↦[(m.slice r hr).view.set]{fullShare} f)) from .rfl) $$ H
  icases H with ⟨%f, %hf, H⟩
  ihave H := (show (m.view.loc c ↦[(m.view.slice r).set]{fullShare} f) ⊢ iprop(owns c (m.slice r₁ hr₁) fullShare (fun j => m.view.read Val f (r₁.emb j))
          ∗ owns c (m.slice r₂ hr₂) fullShare (fun j => m.view.read Val f (r₂.emb j))) from by
    rw [← owns_slice_read c m fullShare r hr]; exact (owns_two c m r r₁ r₂ hr hr₁ hr₂ hd hu fullShare f).1) $$ H
  icases H with ⟨H₁, H₂⟩
  isplitl [H₁]
  · iexists _; iexact H₁
  · iexists _; iexact H₂

include hd hu in
/-- Two windows of any contents side by side make the window they cover. -/
theorem anyAt_join : iprop(anyAt c (m.slice r₁ hr₁) ∗ anyAt c (m.slice r₂ hr₂)) ⊢ (anyAt c (m.slice r hr) : sProp 𝕄) := by
  unfold anyAt owns
  iintro ⟨⟨%X, %f, %hf, H₁⟩, ⟨%Y, %g, %hg, H₂⟩⟩
  have hset : (m.slice r hr).view.set = (m.slice r₁ hr₁).view.set ∪ (m.slice r₂ hr₂).view.set := by
    show (m.view.slice r).set = (m.view.slice r₁).set ∪ (m.view.slice r₂).set
    rw [View.set_slice, View.set_slice, View.set_slice, hu, Finset.map_union]
  have hdis : Disjoint (m.slice r₁ hr₁).view.set (m.slice r₂ hr₂).view.set := by
    show Disjoint (m.view.slice r₁).set (m.view.slice r₂).set
    rw [View.set_slice, View.set_slice]; exact (Finset.disjoint_map _).mpr hd
  iexists _
  iexists ((m.slice r₂ hr₂).view.set.piecewise g f)
  isplitr; · ipureintro; rfl
  rw [hset]
  iapply (pointsTo_join hdis)
  isplitl [H₁] <;> iassumption

/-- A rectangle that is the whole shape has every element. -/
theorem anyAt_whole (hw : r.set = Finset.univ) : (anyAt c m : sProp 𝕄) ⊣⊢ anyAt c (m.slice r hr) := by
  have hset : (m.slice r hr).view.set = m.view.set := by
    show (m.view.slice r).set = m.view.set
    rw [View.set_slice, hw]; rfl
  unfold anyAt owns
  constructor
  · iintro ⟨%X, %f, %hf, H⟩
    iexists _; iexists f
    isplitr; · ipureintro; rfl
    rw [hset]; iexact H
  · iintro ⟨%X, %f, %hf, H⟩
    iexists _; iexists f
    isplitr; · ipureintro; rfl
    rw [← hset]; iexact H

end Rects

end Cert.Windows

end
-- ==== Proof.Common.lean ====
/-
# 01_k — `Common`: the exchange of quantised row blocks around four devices, as a protocol

Each device quantises its 1024 rows of `x` and sends both halves to both ring neighbours; each neighbour passes a
quarter's worth of halves on, so that the device across the ring receives the block too.  Here: the ring, the buffers
and their windows, the semaphore cells, the contents every window holds when its copy has landed, the schedule of the
cells (who pays what, with which window), what each device owes at launch, and the order of waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Windows
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline's copy, the ring's, and the local copies' counters -/

abbrev UB : Type := URounds (GSem nD τ sig) Bool
abbrev UU : Type := (UR sig nD τ × UB) × Counters

local notation "𝕄" => MT nD τ sig Unit (Elt F) ℕ UU ℕ

abbrev EP : Emb (UR sig nD τ) (MT nD τ sig Unit (Elt F) ℕ UU ℕ) := (Emb.inl : Emb (UR sig nD τ) (UR sig nD τ × UB)).trans embL
abbrev ER : Emb UB (MT nD τ sig Unit (Elt F) ℕ UU ℕ) := (Emb.inr : Emb UB (UR sig nD τ × UB)).trans embL
abbrev EC : UEmb Counters (MT nD τ sig Unit (Elt F) ℕ UU ℕ) := countersEmb

instance EP_lands : (EP (F := F)).LandsIn (upEmb : UEmb _ 𝕄) := by unfold EP; infer_instance
instance ER_lands : (ER (F := F)).LandsIn (upEmb : UEmb _ 𝕄) := by unfold ER; infer_instance
instance EC_lands : (EC (F := F)).LandsIn (upEmb : UEmb _ 𝕄) := by unfold EC; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩
set_option backward.proofsInPublic true in
/-- The device across the ring. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem opp_nxt (c : Dev nD) : opp (nxt c) = prv c := by revert c; decide
theorem opp_prv (c : Dev nD) : opp (prv c) = nxt c := by revert c; decide
def ring : Dev nD ≃ Dev nD := ⟨nxt, prv, prv_nxt, nxt_prv⟩

/-! ## Buffers and windows -/

abbrev xH : Memref sig .tc .hbm S1024x4096 .f32 := Memref.whole main_arg0
abbrev wH : Memref sig .tc .hbm S4096x2048 .f32 := Memref.whole main_arg1
abbrev yH : Memref sig .tc .hbm S4096x2048 .f32 := Memref.whole main_v1
abbrev aM : Memref sig .tc .smem S1 .f32 := Memref.whole cc0_stg0_0
abbrev bM : Memref sig .tc .smem S1 .f32 := Memref.whole cc0_stg1_0
abbrev rL : Memref sig .tc .vmem S1024x4096 .fp8e4m3 := Memref.whole cc0_scratch0
abbrev rR : Memref sig .tc .vmem S1024x4096 .fp8e4m3 := Memref.whole cc0_scratch1
abbrev rD : Memref sig .tc .vmem S1024x4096 .fp8e4m3 := Memref.whole cc0_scratch2
abbrev oV : Memref sig .tc .vmem S4x512x2048 .f32 := Memref.whole cc0_scratch3
abbrev xF : Memref sig .tc .vmem S2x256x4096 .f32 := Memref.whole cc0_scratch4
abbrev x8 : Memref sig .tc .vmem S1024x4096 .fp8e4m3 := Memref.whole cc0_scratch5
abbrev wF : Memref sig .tc .vmem S2x512x2048 .f32 := Memref.whole cc0_scratch6
abbrev w8 : Memref sig .tc .vmem S4096x2048 .fp8e5m2 := Memref.whole cc0_scratch7

/-- The rectangle of 512 rows of a row block, and of 256. -/
abbrev h512 (r : ℕ) (h : ∀ a, (![r, 0] : Fin 2 → ℕ) a + S512x4096.size a ≤ S1024x4096.size a := by decide) : Rect S1024x4096 :=
  Rect.unit (s := S1024x4096) ![r, 0] S512x4096.size h
abbrev q256 (r : ℕ) (h : ∀ a, (![r, 0] : Fin 2 → ℕ) a + S256x4096.size a ≤ S1024x4096.size a := by decide) : Rect S1024x4096 :=
  Rect.unit (s := S1024x4096) ![r, 0] S256x4096.size h
/-- 512 and 256 rows of a column block (of `w` or of the result) from given offsets. -/
abbrev t512 (off : Fin 2 → ℕ) (h : ∀ a, off a + S512x2048.size a ≤ S4096x2048.size a := by decide) : Rect S4096x2048 :=
  Rect.unit (s := S4096x2048) off S512x2048.size h
abbrev t256 (off : Fin 2 → ℕ) (h : ∀ a, off a + S256x2048.size a ≤ S4096x2048.size a := by decide) : Rect S4096x2048 :=
  Rect.unit (s := S4096x2048) off S256x2048.size h
/-- The slots of the three double or quadruple buffers, and half a result slot. -/
abbrev xSlot (i : ℕ) (h : ∀ a, (![i, 0, 0] : Fin 3 → ℕ) a + S1x256x4096.size a ≤ S2x256x4096.size a := by decide) : Rect S2x256x4096 :=
  Rect.unit (s := S2x256x4096) ![i, 0, 0] S1x256x4096.size h
abbrev wSlot (i : ℕ) (h : ∀ a, (![i, 0, 0] : Fin 3 → ℕ) a + S1x512x2048.size a ≤ S2x512x2048.size a := by decide) : Rect S2x512x2048 :=
  Rect.unit (s := S2x512x2048) ![i, 0, 0] S1x512x2048.size h
abbrev oSlot (i : ℕ) (h : ∀ a, (![i, 0, 0] : Fin 3 → ℕ) a + S1x512x2048.size a ≤ S4x512x2048.size a := by decide) : Rect S4x512x2048 :=
  Rect.unit (s := S4x512x2048) ![i, 0, 0] S1x512x2048.size h
abbrev oHalf (i r : ℕ) (h : ∀ a, (![i, r, 0] : Fin 3 → ℕ) a + S1x256x2048.size a ≤ S4x512x2048.size a := by decide) : Rect S4x512x2048 :=
  Rect.unit (s := S4x512x2048) ![i, r, 0] S1x256x2048.size h

/-- The window of a memref at a unit-stride rectangle. -/
abbrev win {sp : Space} {s : Shape} {e : EltTy} (b : Memref sig .tc sp s e) (r : Rect s) (hr : ∀ a, r.stride a = 1 := by exact fun _ => rfl) :
    Memref sig .tc sp r.shape e := b.slice r hr

/-! ## Semaphores and cells -/

/-- The runtime's barrier semaphore; the send, receive, result-copy and load semaphores. -/
abbrev barS : Sem sig := (SemArray.scalar (sig.barrier 0 rfl) : Sems sig S_).sem
set_option backward.proofsInPublic true in
abbrev sendS (i : Fin 8) : DmaSem sig := ⟨2 + i.val, by have := i.isLt; show _ < 32; omega⟩
set_option backward.proofsInPublic true in
abbrev recvS (i : Fin 8) : DmaSem sig := ⟨10 + i.val, by have := i.isLt; show _ < 32; omega⟩
set_option backward.proofsInPublic true in
abbrev copyS (i : Fin 10) : DmaSem sig := ⟨18 + i.val, by have := i.isLt; show _ < 32; omega⟩
set_option backward.proofsInPublic true in
abbrev loadS (i : Fin 4) : DmaSem sig := ⟨28 + i.val, by have := i.isLt; show _ < 32; omega⟩

/-- The cells of the protocol on each device: the barrier's, eight send cells, eight receive cells. -/
abbrev CellIx : Type := Option (Bool × Fin 8)

abbrev csem : CellIx → SemLoc sig
  | none => .reg barS
  | some (false, i) => .dma (sendS i)
  | some (true, i) => .dma (recvS i)

abbrev kcell (ck : Dev nD × CellIx) : GSem nD τ sig := ((ck.1 : Thread nD τ), csem ck.2)
abbrev barCell (c : Dev nD) : GSem nD τ sig := ((c : Thread nD τ), .reg barS)
abbrev sendCell (c : Dev nD) (i : Fin 8) : GSem nD τ sig := ((c : Thread nD τ), .dma (sendS i))
abbrev recvCell (c : Dev nD) (i : Fin 8) : GSem nD τ sig := ((c : Thread nD τ), .dma (recvS i))

set_option backward.proofsInPublic true in
/-- Which cell of the protocol a semaphore is. -/
def ixOf : SemLoc sig → Option CellIx
  | .reg _ => some none
  | .dma q =>
    if h : 2 ≤ q.val ∧ q.val < 10 then some (some (false, ⟨q.val - 2, by omega⟩))
    else if h : 10 ≤ q.val ∧ q.val < 18 then some (some (true, ⟨q.val - 10, by omega⟩))
    else none

theorem ixOf_csem (k : CellIx) : ixOf (csem k) = some k := by revert k; decide
theorem ixOf_eq {s : SemLoc sig} {k : CellIx} (h : ixOf s = some k) : s = csem k := by
  revert k; revert s; decide
theorem csem_inj : Function.Injective csem := fun a b h => by
  have := congrArg ixOf h; rw [ixOf_csem, ixOf_csem] at this; exact Option.some.inj this

/-- The device copy `i` of device `c` goes to: copies 0, 1, 4, 5 to the right, copies 2, 3, 6, 7 to the left. -/
def tgt (c : Dev nD) (i : Fin 8) : Dev nD := if i.val % 4 < 2 then nxt c else prv c
/-- The device whose copy `i` comes to device `c`. -/
def org (c : Dev nD) (i : Fin 8) : Dev nD := if i.val % 4 < 2 then prv c else nxt c
theorem tgt_org (c : Dev nD) (i : Fin 8) : tgt (org c i) i = c := by
  unfold tgt org; split; · exact nxt_prv c
  · exact prv_nxt c
theorem org_tgt (c : Dev nD) (i : Fin 8) : org (tgt c i) i = c := by
  unfold tgt org; split; · exact prv_nxt c
  · exact nxt_prv c
def around (i : Fin 8) : Dev nD ≃ Dev nD := ⟨fun c => tgt c i, fun c => org c i, fun c => org_tgt c i, fun c => tgt_org c i⟩

/-- The credit of a copy of 512 rows and of 256. -/
abbrev N512 : ℕ := (win rL (h512 0)).view.dmaCredit
abbrev N256 : ℕ := (win rL (q256 0)).view.dmaCredit
theorem N512_pos : 0 < N512 := View.dmaCredit_pos _ (by decide)
theorem N256_pos : 0 < N256 := View.dmaCredit_pos _ (by decide)
def amt (i : Fin 8) : ℕ := if i.val < 4 then N512 else N256
theorem amt_pos (i : Fin 8) : 0 < amt i := by unfold amt; split; · exact N512_pos
                                              · exact N256_pos

/-! ## Contents -/

/-- Device `c`'s blocks of `x` and `w`, its two scales, all as the memory holds them at launch. -/
def xIn (c : Dev nD) : FVec F S1024x4096 .f32 := m ((c : Thread nD τ).loc main_arg0)
def wIn (c : Dev nD) : FVec F S4096x2048 .f32 := m ((c : Thread nD τ).loc main_arg1)
/-- The row block quantised to the first fp8 format; the column block to the second. -/
def X8 (c : Dev nD) : FVec F S1024x4096 .fp8e4m3 := truncf .fp8e4m3 (xIn m c) bitsLt_fp8e4m3_f32
def W8 (c : Dev nD) : FVec F S4096x2048 .fp8e5m2 := truncf .fp8e5m2 (wIn m c) (by decide)

/-- What an array has on a rectangle. -/
abbrev cut {s : Shape} {α : Type} (G : s.Idx → α) (r : Rect s) : r.shape.Idx → α := fun j => G (r.emb j)

/-- The shares of a quantised half: a part kept for the products, a part for the copy right, a part for the copy left. -/
abbrev qK : PosShare TreeShare := fullShare.left
abbrev qS : PosShare TreeShare := fullShare.right
abbrev qA : PosShare TreeShare := fullShare.right.left
abbrev qB : PosShare TreeShare := fullShare.right.right

/-! ## The schedule -/

/-- What comes back to device `c` with its send cell `i`: the share of the window it sent. -/
def sendPay (c : Dev nD) (i : Fin 8) : sProp 𝕄 :=
  match i with
  | 0 => owns (c : Thread nD τ) (win x8 (h512 0)) qA (cut (X8 m c) (h512 0))
  | 1 => owns (c : Thread nD τ) (win x8 (h512 512)) qA (cut (X8 m c) (h512 512))
  | 2 => owns (c : Thread nD τ) (win x8 (h512 0)) qB (cut (X8 m c) (h512 0))
  | 3 => owns (c : Thread nD τ) (win x8 (h512 512)) qB (cut (X8 m c) (h512 512))
  | 4 => owns (c : Thread nD τ) (win rL (q256 0)) qS (cut (X8 m (prv c)) (q256 0))
  | 5 => owns (c : Thread nD τ) (win rL (q256 256)) qS (cut (X8 m (prv c)) (q256 256))
  | 6 => owns (c : Thread nD τ) (win rR (q256 512)) qS (cut (X8 m (nxt c)) (q256 512))
  | 7 => owns (c : Thread nD τ) (win rR (q256 768)) qS (cut (X8 m (nxt c)) (q256 768))

/-- What lands on device `c` with its receive cell `i`: the window at the rows of the block sent there. -/
def recvPay (c : Dev nD) (i : Fin 8) : sProp 𝕄 :=
  match i with
  | 0 => owns (c : Thread nD τ) (win rL (h512 0)) fullShare (cut (X8 m (prv c)) (h512 0))
  | 1 => owns (c : Thread nD τ) (win rL (h512 512)) fullShare (cut (X8 m (prv c)) (h512 512))
  | 2 => owns (c : Thread nD τ) (win rR (h512 0)) fullShare (cut (X8 m (nxt c)) (h512 0))
  | 3 => owns (c : Thread nD τ) (win rR (h512 512)) fullShare (cut (X8 m (nxt c)) (h512 512))
  | 4 => owns (c : Thread nD τ) (win rD (q256 0)) fullShare (cut (X8 m (opp c)) (q256 0))
  | 5 => owns (c : Thread nD τ) (win rD (q256 256)) fullShare (cut (X8 m (opp c)) (q256 256))
  | 6 => owns (c : Thread nD τ) (win rD (q256 512)) fullShare (cut (X8 m (opp c)) (q256 512))
  | 7 => owns (c : Thread nD τ) (win rD (q256 768)) fullShare (cut (X8 m (opp c)) (q256 768))

/-- The landing windows device `c` lends the device on its left (whose right it is): those of copies 0, 1, 4, 5. -/
def lendL (c : Dev nD) : sProp 𝕄 :=
  iprop(anyAt (c : Thread nD τ) (win rL (h512 0)) ∗ anyAt (c : Thread nD τ) (win rL (h512 512))
    ∗ anyAt (c : Thread nD τ) (win rD (q256 0)) ∗ anyAt (c : Thread nD τ) (win rD (q256 256)))
/-- The landing windows device `c` lends the device on its right: those of copies 2, 3, 6, 7. -/
def lendR (c : Dev nD) : sProp 𝕄 :=
  iprop(anyAt (c : Thread nD τ) (win rR (h512 0)) ∗ anyAt (c : Thread nD τ) (win rR (h512 512))
    ∗ anyAt (c : Thread nD τ) (win rD (q256 512)) ∗ anyAt (c : Thread nD τ) (win rD (q256 768)))

/-- The payload of a cell's duty.  A barrier cell's duty `true` is paid by the device on the right, `false` by the one
on the left, each with the windows it lends. -/
def pay (c : Dev nD) : CellIx → Bool → sProp 𝕄
  | none, d => if d then lendL (nxt c) else lendR (prv c)
  | some (false, i), _ => sendPay m c i
  | some (true, i), _ => recvPay m c i

omit [FloatOps F] in
instance lendL_storable (c : Dev nD) : BI.Storable (upEmb : UEmb _ 𝕄) (lendL (F := F) c) := by unfold lendL; infer_instance
omit [FloatOps F] in
instance lendR_storable (c : Dev nD) : BI.Storable (upEmb : UEmb _ 𝕄) (lendR (F := F) c) := by unfold lendR; infer_instance
instance sendPay_storable (c : Dev nD) (i : Fin 8) : BI.Storable (upEmb : UEmb _ 𝕄) (sendPay m c i) := by
  unfold sendPay; split <;> infer_instance
instance recvPay_storable (c : Dev nD) (i : Fin 8) : BI.Storable (upEmb : UEmb _ 𝕄) (recvPay m c i) := by
  unfold recvPay; split <;> infer_instance
instance pay_storable (c : Dev nD) (k : CellIx) (d : Bool) : BI.Storable (upEmb : UEmb _ 𝕄) (pay m c k d) := by
  unfold pay; (repeat' split) <;> infer_instance

/-- One round, round 0: a barrier cell has two duties of one unit; a send or receive cell one duty of its copy's credit. -/
def ringRd : Rounds.Schedule (GSem nD τ sig) Bool 𝕄 where
  duties g r := if r = 0 ∧ g.1.2 = .tc then
      (match ixOf g.2 with
      | some none => Finset.univ
      | some (some _) => {false}
      | none => ∅)
    else ∅
  unitless _ := False
  amount g _ _ := match ixOf g.2 with
    | some (some (_, i)) => amt i
    | _ => 1
  payload g _ d := match ixOf g.2 with
    | some k => pay m g.1.1 k d
    | none => iprop(emp)
  amount_pos g _ _ _ := by
    split; · exact amt_pos _
    · exact Nat.one_pos

instance ringRd_payload_storable (g : GSem nD τ sig) (r : ℕ) (d : Bool) :
    BI.Storable (upEmb : UEmb _ 𝕄) ((ringRd m).payload g r d) := by
  show BI.Storable upEmb (match ixOf g.2 with
    | some k => pay m g.1.1 k d
    | none => iprop(emp))
  split <;> infer_instance

section Sched
variable (c : Dev nD)

theorem duties_bar : (ringRd m).duties (barCell c) 0 = Finset.univ := by
  show (if 0 = 0 ∧ (c : Thread nD τ).2 = .tc then (match ixOf (csem none) with
      | some none => Finset.univ
      | some (some _) => {false}
      | none => ∅) else ∅) = _
  rw [if_pos ⟨rfl, rfl⟩, ixOf_csem]
theorem duties_copy (k : Bool × Fin 8) : (ringRd m).duties (kcell (c, some k)) 0 = {false} := by
  show (if 0 = 0 ∧ (c : Thread nD τ).2 = .tc then (match ixOf (csem (some k)) with
      | some none => Finset.univ
      | some (some _) => {false}
      | none => ∅) else ∅) = _
  rw [if_pos ⟨rfl, rfl⟩, ixOf_csem]
theorem duties_later (g : GSem nD τ sig) : ∀ r, 1 ≤ r → (ringRd m).duties g r = ∅ :=
  fun r hr => if_neg fun h => by omega
theorem amount_bar (d : Bool) : (ringRd m).amount (barCell c) 0 d = 1 := by
  show (match ixOf (csem none) with
    | some (some (_, i)) => amt i
    | _ => 1) = 1
  rw [ixOf_csem]
theorem amount_copy (k : Bool × Fin 8) (d : Bool) : (ringRd m).amount (kcell (c, some k)) 0 d = amt k.2 := by
  show (match ixOf (csem (some k)) with
    | some (some (_, i)) => amt i
    | _ => 1) = amt k.2
  rw [ixOf_csem]
theorem payload_at (k : CellIx) (d : Bool) : (ringRd m).payload (kcell (c, k)) 0 d = pay m c k d := by
  show (match ixOf (csem k) with
    | some k => pay m c k d
    | none => iprop(emp)) = _
  rw [ixOf_csem]
theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_copy (k : Bool × Fin 8) : (ringRd m).expect (kcell (c, some k)) 0 = amt k.2 := by
  unfold Schedule.expect Schedule.amountOf; rw [duties_copy, Finset.sum_singleton, amount_copy]
/-- The whole round of a barrier cell: what both neighbours lend. -/
theorem rest_bar : bigSep ((ringRd m).duties (barCell c) 0 \ ∅) (fun d => (ringRd m).payload (barCell c) 0 d)
    = iprop(lendR (prv c) ∗ lendL (nxt c)) := by
  rw [Finset.sdiff_empty, duties_bar, bigSep_univ_eq_bigSepL [false, true] (by decide) (by decide), bigSepL_cons_cons, bigSepL_singleton,
    show (ringRd m).payload (barCell c) 0 false = lendR (prv c) from payload_at m c none false,
    show (ringRd m).payload (barCell c) 0 true = lendL (nxt c) from payload_at m c none true]
  rfl
/-- The whole round of a copy's cell: its one payload. -/
theorem rest_copy (k : Bool × Fin 8) :
    bigSep ((ringRd m).duties (kcell (c, some k)) 0 \ ∅) (fun d => (ringRd m).payload (kcell (c, some k)) 0 d) = pay m c (some k) false := by
  rw [Finset.sdiff_empty, duties_copy, bigSep_singleton, payload_at]

end Sched

/-! ## What each device owes; the order of waits -/

/-- What device `c` owes the receive cells of the copies in the list, not yet issued. -/
def owed (c : Dev nD) : List (Fin 8) → CellTallies nD τ sig Unit
  | [] => 0
  | i :: l => owed c l + tallyAt (recvCell (tgt c i) i) () (amt i)

/-- The order in which a device issues its eight copies. -/
abbrev order : List (Fin 8) := [0, 2, 1, 3, 4, 5, 6, 7]

/-- After its first signal device `c` still owes its right neighbour's barrier cell one unit; at launch the left's too. -/
def O₁ (c : Dev nD) : CellTallies nD τ sig Unit := owed c order + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the receive cells of a device's own block at 2, those of the passed-on block at 3, all others at 0. -/
def lvOf : Option CellIx → ℕ
  | some none => 1
  | some (some (true, i)) => if i.val < 4 then 2 else 3
  | _ => 0
def lv (g : GSem nD τ sig) (_ : Unit) : ℕ := lvOf (ixOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_csem (c : Dev nD) (k : CellIx) (u : Unit) : lv (kcell (c, k)) u = lvOf (some k) := by
  unfold lv; rw [show (kcell (c, k)).2 = csem k from rfl, ixOf_csem]

theorem owed_pos {c : Dev nD} {l : List (Fin 8)} {g : GSem nD τ sig} {u : Unit} (h : 0 < owed c l g u) :
    ∃ i ∈ l, g = recvCell (tgt c i) i := by
  induction l with
  | nil => exact absurd h (Nat.lt_irrefl 0)
  | cons i l ih =>
    unfold owed at h
    rw [Pi.add_apply, Finsupp.add_apply, tallyAt_apply] at h
    by_cases hi : g = recvCell (tgt c i) i
    · exact ⟨i, List.mem_cons_self, hi⟩
    · rw [if_neg fun h' => hi h'.1, Nat.add_zero] at h
      obtain ⟨j, hj, e⟩ := ih h
      exact ⟨j, List.mem_cons_of_mem _ hj, e⟩

omit [FloatOps F] in
/-- A wait on a cell below every receive cell still owed is allowed. -/
theorem mayWait_owed (c : Dev nD) (sm : SemLoc sig) (l : List (Fin 8))
    (h : ∀ i ∈ l, lvOf (ixOf sm) < lvOf (some (some (true, i)))) :
    (levAts L lv : sProp 𝕄) ⊢ MayWait (c : Thread nD τ) sm () (owed c l) :=
  MayOwe.of_cut (L := L) (lev := lv) (lvOf (ixOf sm)) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_refl _)
    (fun g u hg => by
      obtain ⟨i, hi, rfl⟩ := owed_pos hg
      rw [show recvCell (tgt c i) i = kcell (tgt c i, some (true, i)) from rfl, lv_csem]; exact h i hi)

omit [FloatOps F] in
/-- At launch and at the end a wait on a cell below the barrier cells is allowed. -/
theorem mayWait_stage (c : Dev nD) (sm : SemLoc sig) (h : lvOf (ixOf sm) = 0) (O : CellTallies nD τ sig Unit) (hO : O = O₀ c ∨ O = 0) :
    (levAts L lv : sProp 𝕄) ⊢ MayWait (c : Thread nD τ) sm () O := by
  rcases hO with rfl | rfl
  · have hp : ∀ {g : GSem nD τ sig} {u : Unit}, 0 < O₀ c g u → ∃ d : Dev nD, ∃ k : CellIx, g = kcell (d, k) ∧ 0 < lvOf (some k) := by
      intro g u hg
      unfold O₀ O₁ at hg
      rw [Pi.add_apply, Finsupp.add_apply, Pi.add_apply, Finsupp.add_apply, tallyAt_apply, tallyAt_apply] at hg
      by_cases h₁ : g = barCell (prv c)
      · exact ⟨prv c, none, h₁, by decide⟩
      by_cases h₂ : g = barCell (nxt c)
      · exact ⟨nxt c, none, h₂, by decide⟩
      rw [if_neg fun h' => h₂ h'.1, if_neg fun h' => h₁ h'.1] at hg
      obtain ⟨i, -, e⟩ := owed_pos (l := order) (by simpa using hg)
      exact ⟨tgt c i, some (true, i), e, (by decide : ∀ i : Fin 8, 0 < lvOf (some (some (true, i)))) i⟩
    refine MayOwe.of_cut (L := L) (lev := lv) 0 (fun p hp => by rw [Finset.mem_singleton.mp hp, L_tc]; exact Finset.mem_singleton_self _)
      (fun g u hg => by obtain ⟨d, k, rfl, -⟩ := hp hg; exact Finset.mem_singleton_self _)
      (fun p hp => by rw [Finset.mem_singleton.mp hp]; exact le_of_eq h)
      (fun g u hg => by obtain ⟨d, k, rfl, hk⟩ := hp hg; rw [lv_csem]; exact hk)
  · rw [MayWait_zero]; iintro -; iempintro

end Cert.KProof

end
-- ==== Proof.Steps.lean ====
/-
# 01_k — `Steps`: the body's operations, one rule for each kind

A copy into or out of a slot and its wait; a copy to a neighbour; a wait for a copy of its own or of a neighbour's.
-/
module

public import proofs.«01_k».proof.Proof.Common

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A program of device `c`'s core, to be run to `Q`. -/
abbrev go (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- What every device knows: each cell of each device carries the schedule and has begun it; the order of waits. -/
def env (K : Dev nD × CellIx → ℕ) : sProp 𝕄 :=
  iprop((bigSep Finset.univ fun ck => iprop(cellInv ER (ringRd m) (K ck) (kcell ck) ∗ reached ER (kcell ck) 0)) ∗ levAts L lv)

instance env_persistent (K : Dev nD × CellIx → ℕ) : Persistent (env m K) := by unfold env; infer_instance

variable (K : Dev nD × CellIx → ℕ)

theorem env_cell (ck : Dev nD × CellIx) : env m K ⊢ iprop(cellInv ER (ringRd m) (K ck) (kcell ck) ∗ reached ER (kcell ck) 0) := by
  unfold env
  iintro ⟨H, -⟩
  iapply (show (bigSep Finset.univ fun ck => iprop(cellInv ER (ringRd m) (K ck) (kcell ck) ∗ reached ER (kcell ck) 0))
    ⊢ iprop(cellInv ER (ringRd m) (K ck) (kcell ck) ∗ reached ER (kcell ck) 0) from bigSep_elim (Finset.mem_univ ck))
  iexact H

theorem env_lev : env m K ⊢ levAts L lv := by
  unfold env; iintro ⟨-, H⟩; iexact H

variable (c : Dev nD) (l : List (Fin 8))

/-- Device `c` owes the copies in the list. -/
def due : sProp 𝕄 := iprop(∃ W, owes (c : Thread nD τ) (owed c l) W)

variable {α : Type} {Q : α → sProp (MT nD τ sig Unit (Elt F) ℕ UU ℕ)}

section Slots
variable {sp sp' : Space} {s s' : Shape} {e : EltTy}

/-- A copy under way on a semaphore into a slot seen at the source's shape. -/
def flyIn (q : DmaSem sig) (src : Memref sig .tc sp' s' e) (dst : Memref sig .tc sp s e) (h : s.Squeezes s') (X : s'.Idx → Elt F e) : sProp 𝕄 :=
  Flight EC (c : Thread nD τ) (.dma q) () (dst.squeeze s' h).view.dmaCredit
    iprop(owns (c : Thread nD τ) (dst.squeeze s' h) fullShare X ∗ owns (c : Thread nD τ) src fullShare X)

/-- A copy under way on a semaphore out of a slot seen at the destination's shape. -/
def flyOut (q : DmaSem sig) (src : Memref sig .tc sp s e) (h : s.Squeezes s') (dst : Memref sig .tc sp' s' e) (X : s'.Idx → Elt F e) : sProp 𝕄 :=
  Flight EC (c : Thread nD τ) (.dma q) () dst.view.dmaCredit
    iprop(owns (c : Thread nD τ) dst fullShare X ∗ owns (c : Thread nD τ) (src.squeeze s' h) fullShare X)

/-- A copy into a slot is issued. -/
theorem step_in {src : Memref sig .tc sp' s' e} {dst : Memref sig .tc sp s e} {h : s.Squeezes s'} {q : DmaSem sig}
    (hc : s.ShapeCasts s') (hn : 0 < s'.numel)
    {hsrc : src.view.WordExact} {hdst : (dst.squeeze s' h).view.WordExact} {hsem : DmaTarget.Typed sp' (.dma q) (DmaTarget.here (dst.squeeze s' h) : DmaTarget nD τ sig .tc sp s' e)}
    {k : PUnit → Prog (TpuEff nD τ sig (Elt F) Λ₀ .tc) α} {X : s'.Idx → Elt F e} :
    iprop(owns (c : Thread nD τ) src fullShare X ∗ anyAt (c : Thread nD τ) dst ∗ semVal ((c : Thread nD τ), .dma q) 0)
      ⊢ iprop((flyIn c q src dst h X -∗ go c (k ⟨⟩) Q)
        -∗ go c (.op (.enqueueDma src (.here (dst.squeeze s' h)) (.dma q) hsrc hdst hsem) k) Q) := by
  iintro ⟨Hs, Hd, Hv⟩ Hk
  iapply (wp_copy_start 𝒱₀ (c : Thread nD τ) none EC () (View.dmaCredit_pos _ hn)) $$ [Hs Hd Hv]
  · isplitl [Hs]; · iexact Hs
    isplitl [Hd]
    · unfold anyAt
      icases Hd with ⟨%Y, Hd⟩
      iexists _
      iapply (owns_squeeze (c : Thread nD τ) dst h hc fullShare Y) $$ Hd
    · iexact Hv
  iexact Hk

/-- Its wait: the slot holds the source's contents, the source is back. -/
theorem step_in_wait {src : Memref sig .tc sp' s' e} {dst : Memref sig .tc sp s e} {h : s.Squeezes s'} {q : DmaSem sig} {spw : Space} {sw : Shape} {ew : EltTy}
    (hc : s'.ShapeCasts s) (hq : ixOf (.dma q) = none)
    {srcw : Memref sig .tc spw sw ew} {hsrc : srcw.view.WordExact} {hdst : (dst.squeeze s' h).view.WordExact}
    {k : PUnit → Prog (TpuEff nD τ sig (Elt F) Λ₀ .tc) α} {X : s'.Idx → Elt F e} :
    iprop(flyIn c q src dst h X ∗ due c l ∗ env m K)
      ⊢ iprop(((owns (c : Thread nD τ) dst fullShare (shapeCast s X hc) ∗ owns (c : Thread nD τ) src fullShare X
            ∗ semVal ((c : Thread nD τ), .dma q) 0 ∗ due c l) -∗ go c (k ⟨⟩) Q)
        -∗ go c (.op (.waitDma2 q srcw (dst.squeeze s' h) hsrc hdst) k) Q) := by
  unfold flyIn due
  iintro ⟨HF, ⟨%W, HO⟩, #He⟩ Hk
  iapply (wp_waitLocalO EC 𝒱₀ (c : Thread nD τ) none () rfl) $$ [HF HO]
  · isplitl [HF]; · iexact HF
    isplitl [HO]; · iexact HO
    iapply (mayWait_owed c (.dma q) l fun i _ => by rw [hq]; show 0 < (if i.val < 4 then 2 else 3); split <;> decide)
    iapply (env_lev m K) $$ He
  iintro ⟨⟨Hd, Hs⟩, Hv, HO⟩
  iapply Hk
  isplitl [Hd]; · iapply (owns_unsqueeze (c : Thread nD τ) dst h hc fullShare X) $$ Hd
  isplitl [Hs]; · iexact Hs
  isplitl [Hv]; · iexact Hv
  iexists _; iexact HO

/-- The wait and a read of the slot. -/
theorem step_fetch {src : Memref sig .tc sp' s' e} {cs : CoreSpace} {b : Memref sig .tc cs s e} {r : Rect s} {hr : ∀ a, r.stride a = 1}
    {h : r.shape.Squeezes s'} {q : DmaSem sig} {spw : Space} {sw : Shape} {ew : EltTy}
    (hc : s'.ShapeCasts r.shape) (hq : ixOf (.dma q) = none)
    {srcw : Memref sig .tc spw sw ew} {hsrc : srcw.view.WordExact} {hdst : ((b.slice r hr).squeeze s' h).view.WordExact} {hl : b.view.LoadsAt r.toLoadRect}
    {k : (r.shape.Idx → Elt F e) → Prog (TpuEff nD τ sig (Elt F) Λ₀ .tc) α} {X : s'.Idx → Elt F e} :
    iprop(flyIn c q src (b.slice r hr) h X ∗ due c l ∗ env m K)
      ⊢ iprop(((anyAt (c : Thread nD τ) (b.slice r hr) ∗ owns (c : Thread nD τ) src fullShare X
            ∗ semVal ((c : Thread nD τ), .dma q) 0 ∗ due c l) -∗ go c (k (shapeCast r.shape X hc)) Q)
        -∗ go c (.op (.waitDma2 q srcw ((b.slice r hr).squeeze s' h) hsrc hdst) fun _ => .op (.load b r.toLoadRect hl) k) Q) := by
  iintro H Hk
  iapply (step_in_wait m K c l hc hq) $$ H
  iintro ⟨Hd, Hs, Hv, HO⟩
  iapply (wp_load_window 𝒱₀ (c : Thread nD τ) none hr) $$ Hd
  iintro Hd
  iapply Hk
  isplitl [Hd]; · iapply anyAt_of_owns $$ Hd
  isplitl [Hs]; · iexact Hs
  isplitl [Hv]; · iexact Hv
  iexact HO

/-- A copy out of a slot is issued. -/
theorem step_out {src : Memref sig .tc sp s e} {dst : Memref sig .tc sp' s' e} {h : s.Squeezes s'} {q : DmaSem sig}
    (hc : s.ShapeCasts s') (hn : 0 < s'.numel)
    {hsrc : (src.squeeze s' h).view.WordExact} {hdst : dst.view.WordExact} {hsem : DmaTarget.Typed sp (.dma q) (DmaTarget.here dst : DmaTarget nD τ sig .tc sp' s' e)}
    {k : PUnit → Prog (TpuEff nD τ sig (Elt F) Λ₀ .tc) α} {X : s.Idx → Elt F e} :
    iprop(owns (c : Thread nD τ) src fullShare X ∗ anyAt (c : Thread nD τ) dst ∗ semVal ((c : Thread nD τ), .dma q) 0)
      ⊢ iprop((flyOut c q src h dst (shapeCast s' X hc) -∗ go c (k ⟨⟩) Q)
        -∗ go c (.op (.enqueueDma (src.squeeze s' h) (.here dst) (.dma q) hsrc hdst hsem) k) Q) := by
  iintro ⟨Hs, Hd, Hv⟩ Hk
  iapply (wp_copy_start 𝒱₀ (c : Thread nD τ) none EC () (View.dmaCredit_pos _ hn)) $$ [Hs Hd Hv]
  · isplitl [Hs]; · iapply (owns_squeeze (c : Thread nD τ) src h hc fullShare X) $$ Hs
    isplitl [Hd] <;> iassumption
  iexact Hk

/-- Its wait: the destination holds the slot's contents, the slot is free again. -/
theorem step_out_wait {src : Memref sig .tc sp s e} {dst : Memref sig .tc sp' s' e} {h : s.Squeezes s'} {q : DmaSem sig} {spw : Space} {sw : Shape} {ew : EltTy}
    (hc : s'.ShapeCasts s) (hq : ixOf (.dma q) = none)
    {srcw : Memref sig .tc spw sw ew} {hsrc : srcw.view.WordExact} {hdst : dst.view.WordExact}
    {k : PUnit → Prog (TpuEff nD τ sig (Elt F) Λ₀ .tc) α} {X : s'.Idx → Elt F e} :
    iprop(flyOut c q src h dst X ∗ due c l ∗ env m K)
      ⊢ iprop(((owns (c : Thread nD τ) dst fullShare X ∗ anyAt (c : Thread nD τ) src
            ∗ semVal ((c : Thread nD τ), .dma q) 0 ∗ due c l) -∗ go c (k ⟨⟩) Q)
        -∗ go c (.op (.waitDma2 q srcw dst hsrc hdst) k) Q) := by
  unfold flyOut due
  iintro ⟨HF, ⟨%W, HO⟩, #He⟩ Hk
  iapply (wp_waitLocalO EC 𝒱₀ (c : Thread nD τ) none () rfl) $$ [HF HO]
  · isplitl [HF]; · iexact HF
    isplitl [HO]; · iexact HO
    iapply (mayWait_owed c (.dma q) l fun i _ => by rw [hq]; show 0 < (if i.val < 4 then 2 else 3); split <;> decide)
    iapply (env_lev m K) $$ He
  iintro ⟨⟨Hd, Hs⟩, Hv, HO⟩
  iapply Hk
  isplitl [Hd]; · iexact Hd
  isplitl [Hs]
  · iapply anyAt_of_owns
    iapply (owns_unsqueeze (c : Thread nD τ) src h hc fullShare X) $$ Hs
  isplitl [Hv]; · iexact Hv
  iexists _; iexact HO

end Slots

section Ring
variable {s : Shape}

/-- Copy `i` is issued, to the device `n` it goes to: the first of the copies still owed. -/
theorem step_send (i : Fin 8) {n : Dev nD} (hn : n = tgt c i) {src dst : Memref sig .tc .vmem s .fp8e4m3} {q : PosShare TreeShare} {X : s.Idx → Elt F .fp8e4m3}
    (hN : dst.view.dmaCredit = amt i)
    (h₁ : owns (c : Thread nD τ) src q X ⊢ sendPay m c i) (h₂ : owns (tgt c i : Thread nD τ) dst fullShare X ⊢ recvPay m (tgt c i) i)
    {hsc : (dst : Memref sig (Dev.tc n : Thread nD τ).2.kind .vmem s .fp8e4m3).view.ref.isScScratch = false}
    {hsrc : src.view.WordExact} {hdst : dst.view.WordExact}
    {hsem : DmaTarget.Typed .vmem (.dma (recvS i)) (.remote (Dev.tc n : Thread nD τ) dst (.dma (sendS i)) hsc)}
    {k : PUnit → Prog (TpuEff nD τ sig (Elt F) Λ₀ .tc) α} :
    iprop(env m K ∗ owns (c : Thread nD τ) src q X ∗ anyAt (tgt c i : Thread nD τ) dst ∗ due c (i :: l)
        ∗ dutyTok ER (sendCell c i) 0 false ∗ dutyTok ER (recvCell (tgt c i) i) 0 false)
      ⊢ iprop(((cred (tallyAt (sendCell c i) () (amt i)) ∗ due c l) -∗ go c (k ⟨⟩) Q)
        -∗ go c (.op (.enqueueDma src (.remote (Dev.tc n : Thread nD τ) dst (.dma (sendS i)) hsc) (.dma (recvS i)) hsrc hdst hsem) k) Q) := by
  subst hn
  unfold due
  iintro ⟨#He, Hs, Hd, ⟨%W, HO⟩, Ht, Ht'⟩ Hk
  ihave #H1 := (env_cell m K (c, some (false, i))) $$ He
  ihave #H2 := (env_cell m K (tgt c i, some (true, i))) $$ He
  icases H1 with ⟨#Hi1, #Hr1⟩
  icases H2 with ⟨#Hi2, #Hr2⟩
  iapply (wp_send_window 𝒱₀ (c : Thread nD τ) none ER (ringRd m) (c' := (tgt c i : Thread nD τ)) (sS := .dma (sendS i)) (sem := .dma (recvS i))
    (d₁ := false) (d₂ := false) (κ₁ := K (c, some (false, i))) (κ₂ := K (tgt c i, some (true, i)))
    (by rw [show ((c : Thread nD τ), SemLoc.dma (sendS i)) = kcell (c, some (false, i)) from rfl, duties_copy]; exact Finset.mem_singleton_self _)
    (by rw [show ((tgt c i : Thread nD τ), SemLoc.dma (recvS i)) = kcell (tgt c i, some (true, i)) from rfl, duties_copy]; exact Finset.mem_singleton_self _)
    () () (amt i) hN (amount_copy m c (false, i) false) (amount_copy m (tgt c i) (true, i) false)
    (owed c l) rfl (W := W)
    (h₁.trans (Entails.of_eq (payload_at m c (some (false, i)) false).symm))
    (h₂.trans (Entails.of_eq (payload_at m (tgt c i) (some (true, i)) false).symm)) (by routes)) $$ [Hs Hd HO Ht Ht']
  · isplitr; · iexact Hi1
    isplitr; · iexact Hi2
    isplitl [Hs]; · iexact Hs
    isplitl [Hd]; · iexact Hd
    isplitl [HO]; · iexact HO
    isplitl [Ht]; · iexact Ht
    isplitr; · iexact Hr1
    isplitl [Ht']; · iexact Ht'
    iexact Hr2
  iintro ⟨Hc, HO⟩
  iapply Hk
  isplitl [Hc]; · iexact Hc
  iexists W; iexact HO

/-- A wait for the whole of a copy, on its send or receive cell: the cell's payload, and the cell closed. -/
theorem step_wait (k' : Bool × Fin 8) {q : DmaSem sig} (hq : SemLoc.dma q = csem (some k'))
    (hl : ∀ i ∈ l, lvOf (some (some k')) < lvOf (some (some (true, i))))
    {sp sp' : Space} {s' : Shape} {e e' : EltTy}
    {srcw : Memref sig .tc sp' s' e'} {dstw : Memref sig .tc sp s e} {hsrc : srcw.view.WordExact} {hdst : dstw.view.WordExact}
    (hN : dstw.view.dmaCredit = amt k'.2)
    {k : PUnit → Prog (TpuEff nD τ sig (Elt F) Λ₀ .tc) α} :
    iprop(env m K ∗ cred (tallyAt (kcell (c, some k')) () (amt k'.2)) ∗ due c l ∗ atPos ER (kcell (c, some k')) 0 ∅ 0)
      ⊢ iprop(((pay m c (some k') false ∗ due c l ∗ semVal (kcell (c, some k')) 0) -∗ go c (k ⟨⟩) Q)
        -∗ go c (.op (.waitDma2 q srcw dstw hsrc hdst) k) Q) := by
  unfold due
  iintro ⟨#He, Hc, ⟨%W, HO⟩, Hat⟩ Hk
  ihave #H1 := (env_cell m K (c, some k')) $$ He
  icases H1 with ⟨#Hi, -⟩
  have hcell : kcell (c, some k') = ((c : Thread nD τ), SemLoc.dma q) := Prod.ext rfl hq.symm
  have hw := fun K' => wpE_waitDma2_eq (defs := defs₀ (F := F)) (Ix := Unit) (Name := ℕ) (U := UU) (Lvl := ℕ) 𝒱₀ (c : Thread nD τ) none Set.univ (sem := q) (src := srcw) (dst := dstw) (hsrc := hsrc) (hdst := hdst) K'
  iapply (Rounds.wp_wait_rest_token 𝒱₀ ER (ringRd m) (c : Thread nD τ) none (κ := K (c, some k')) (sm := SemLoc.dma q) (k' := dstw.view.dmaCredit)
      hw (Set.mem_univ _) () (O := owed c l) (W := W) (R := 0) (m := 0) (T := ∅)
      (by rw [Nat.zero_add, hN, ← hcell, expect_copy])) $$ [Hc HO Hat]
  · rw [hN, ← hcell]
    isplitr; · iexact Hi
    isplitl [Hc]; · iexact Hc
    isplitl [HO]; · iexact HO
    isplitr
    · iapply (mayWait_owed c (.dma q) l fun i hi => by rw [hq, ixOf_csem]; exact hl i hi)
      iapply (env_lev m K) $$ He
    iexact Hat
  rw [← hcell]
  iintro ⟨HO, Hat, -, Hp⟩
  ihave Hp := (Entails.of_eq (rest_copy m c k')) $$ Hp
  imod (Rounds.cell_close ER (ringRd m) (Set.mem_univ (K (c, some k'))) (fun h => h) (R := 0 + 1) (duties_later m (kcell (c, some k')))) $$ [Hat] with Hz
  · isplitr; · iexact Hi
    iexact Hat
  iapply Hk
  isplitl [Hp]; · iexact Hp
  isplitl [HO]; · iexists _; iexact HO
  iexact Hz

end Ring

end Cert.KProof

end
-- ==== Proof.Tiles.lean ====
/-
# 01_k — `Tiles`: how the buffers are cut

Rows of a matrix cut into stretches, a stack of matrices into its slots, a slot into its halves; the cut pieces rejoin.
-/
module

public import proofs.«01_k».proof.Proof.Steps

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A stretch of `n` whole rows from row `o` of an `R × C` matrix. -/
abbrev rows (R C o n : ℕ) (h : ∀ a, (![o, 0] : Fin 2 → ℕ) a + (⟨2, ![n, C]⟩ : Shape).size a ≤ (⟨2, ![R, C]⟩ : Shape).size a) : Rect ⟨2, ![R, C]⟩ :=
  Rect.unit (s := ⟨2, ![R, C]⟩) ![o, 0] (⟨2, ![n, C]⟩ : Shape).size h

/-- `n` rows from row `o` of matrix `i` of a stack. -/
abbrev stack (P R C i o p n : ℕ) (h : ∀ a, (![i, o, 0] : Fin 3 → ℕ) a + (⟨3, ![p, n, C]⟩ : Shape).size a ≤ (⟨3, ![P, R, C]⟩ : Shape).size a) :
    Rect ⟨3, ![P, R, C]⟩ :=
  Rect.unit (s := ⟨3, ![P, R, C]⟩) ![i, o, 0] (⟨3, ![p, n, C]⟩ : Shape).size h

theorem mem_rows {R C o n : ℕ} {h} (i : (⟨2, ![R, C]⟩ : Shape).Idx) : i ∈ (rows R C o n h).set ↔ o ≤ (i 0).val ∧ (i 0).val < o + n := by
  rw [Rect.mem_set_unit, Fin.forall_fin_two]
  have h1 : (i 1).val < C := (i 1).isLt
  constructor
  · exact fun ⟨h, _⟩ => h
  · exact fun h => ⟨h, Nat.zero_le _, by show (i 1).val < 0 + C; omega⟩

theorem mem_stack {P R C i o p n : ℕ} {h} (x : (⟨3, ![P, R, C]⟩ : Shape).Idx) :
    x ∈ (stack P R C i o p n h).set ↔ (i ≤ (x 0).val ∧ (x 0).val < i + p) ∧ (o ≤ (x 1).val ∧ (x 1).val < o + n) := by
  rw [Rect.mem_set_unit]
  have h2 : (x 2).val < C := (x 2).isLt
  constructor
  · exact fun h => ⟨h 0, h 1⟩
  · rintro ⟨h, h'⟩ a
    fin_cases a
    · exact h
    · exact h'
    · exact ⟨Nat.zero_le _, by show (x 2).val < 0 + C; omega⟩

theorem rows_union {R C o n n' : ℕ} {h h₁ h₂} : (rows R C o (n + n') h).set = (rows R C o n h₁).set ∪ (rows R C (o + n) n' h₂).set := by
  ext i; rw [Finset.mem_union, mem_rows, mem_rows, mem_rows]; omega
theorem rows_disjoint {R C o n n' : ℕ} {h₁ h₂} : Disjoint (rows R C o n h₁).set (rows R C (o + n) n' h₂).set := by
  rw [Finset.disjoint_left]; intro i; rw [mem_rows, mem_rows]; omega
theorem rows_whole {R C : ℕ} {h} : (rows R C 0 R h).set = Finset.univ := by
  ext i; have := (i 0).isLt; rw [mem_rows]; simp only [Finset.mem_univ, iff_true]
  exact ⟨Nat.zero_le _, by show (i 0).val < 0 + R; rw [Nat.zero_add]; exact this⟩
theorem stack_union {P R C i o p p' n : ℕ} {h h₁ h₂} :
    (stack P R C i o (p + p') n h).set = (stack P R C i o p n h₁).set ∪ (stack P R C (i + p) o p' n h₂).set := by
  ext x; rw [Finset.mem_union, mem_stack, mem_stack, mem_stack]; omega
theorem stack_disjoint {P R C i o p p' n : ℕ} {h₁ h₂} : Disjoint (stack P R C i o p n h₁).set (stack P R C (i + p) o p' n h₂).set := by
  rw [Finset.disjoint_left]; intro x; rw [mem_stack, mem_stack]; omega
theorem slot_union {P R C i o p n n' : ℕ} {h h₁ h₂} :
    (stack P R C i o p (n + n') h).set = (stack P R C i o p n h₁).set ∪ (stack P R C i (o + n) p n' h₂).set := by
  ext x; rw [Finset.mem_union, mem_stack, mem_stack, mem_stack]; omega
theorem slot_disjoint {P R C i o p n n' : ℕ} {h₁ h₂} : Disjoint (stack P R C i o p n h₁).set (stack P R C i (o + n) p n' h₂).set := by
  rw [Finset.disjoint_left]; intro x; rw [mem_stack, mem_stack]; omega
theorem stack_whole {P R C : ℕ} {h} : (stack P R C 0 0 P R h).set = Finset.univ := by
  ext x; have h0 := (x 0).isLt; have h1 := (x 1).isLt; rw [mem_stack]; simp only [Finset.mem_univ, iff_true]
  exact ⟨⟨Nat.zero_le _, by show (x 0).val < 0 + P; rw [Nat.zero_add]; exact h0⟩, Nat.zero_le _, by show (x 1).val < 0 + R; rw [Nat.zero_add]; exact h1⟩

variable (c : Dev nD)

/-- A window of a whole buffer cut in two side by side, at one array's contents. -/
theorem cut_two (b : Ref sig .tc) {r r₁ r₂ : Rect b.ty.shape} (hd : Disjoint r₁.set r₂.set) (hu : r.set = r₁.set ∪ r₂.set)
    (hr : ∀ a, r.stride a = 1) (hr₁ : ∀ a, r₁.stride a = 1) (hr₂ : ∀ a, r₂.stride a = 1) (q : PosShare TreeShare) (G : b.ty.Contents (Elt F)) :
    (owns (c : Thread nD τ) (win (Memref.whole b) r hr) q (cut G r) : sProp 𝕄)
      ⊣⊢ iprop(owns (c : Thread nD τ) (win (Memref.whole b) r₁ hr₁) q (cut G r₁) ∗ owns (c : Thread nD τ) (win (Memref.whole b) r₂ hr₂) q (cut G r₂)) :=
  owns_two (c : Thread nD τ) (Memref.whole b) r r₁ r₂ hr hr₁ hr₂ hd hu q G

/-- A whole buffer is the window of all of it. -/
theorem whole_cut (b : Ref sig .tc) {r : Rect b.ty.shape} (hw : r.set = Finset.univ) (hr : ∀ a, r.stride a = 1) (G : b.ty.Contents (Elt F)) :
    (((c : Thread nD τ).loc b) ↦{fullShare} G : sProp 𝕄) = owns (c : Thread nD τ) (win (Memref.whole b) r hr) fullShare (cut G r) := by
  have h := owns_slice_read (Ix := Unit) (Name := ℕ) (U := UU) (Lvl := ℕ) (c : Thread nD τ) (Memref.whole b) fullShare r hr G
  rw [show (cut G r) = (fun j => (Memref.whole b).view.read (Elt F) G (r.emb j)) from rfl, h, View.set_slice, hw]
  show _ = ((Memref.whole b).view.loc (c : Thread nD τ) ↦[(Memref.whole b).view.set]{fullShare} G)
  simp only [Memref.view_whole, View.set_whole]

theorem whole_any (b : Ref sig .tc) : iprop(∃ f : Buf (Elt F) ((c : Thread nD τ).loc b), (((c : Thread nD τ).loc b) ↦{fullShare} f))
    ⊣⊢ (anyAt (c : Thread nD τ) (Memref.whole b) : sProp 𝕄) := by
  unfold anyAt
  constructor
  · iintro ⟨%f, H⟩; iexists f
    iapply (Entails.of_eq (owns_whole (Ix := Unit) (Name := ℕ) (U := UU) (Lvl := ℕ) (c : Thread nD τ) b fullShare f).symm) $$ H
  · iintro ⟨%f, H⟩; iexists f
    iapply (Entails.of_eq (owns_whole (Ix := Unit) (Name := ℕ) (U := UU) (Lvl := ℕ) (c : Thread nD τ) b fullShare f)) $$ H

end Cert.KProof

end
-- ==== Proof.Parts1.lean ====
/-
# 01_k — `Parts1`: the body from its entry through the quantisation of `x` and the first four copies

One theorem for each stretch of the body the program is printed in: what the stretch uses, and what it leaves.
-/
module

public import proofs.«01_k».proof.Proof.Tiles
public import Idealize.ShloMosaic.Lib.Pipeline.Value

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ) (c : Dev nD)
variable {α : Type} {Q : α → sProp (MT nD τ sig Unit (Elt F) ℕ UU ℕ)}

/-- A stretch of the body at the kernel's buffers and semaphores. -/
abbrev onArgs {β : Type _}
    (f : (arg0 : Memref sig .tc .hbm S1024x4096 .f32) → arg0.IsWhole → (arg1 : Memref sig .tc .hbm S4096x2048 .f32) → arg1.IsWhole →
      (arg2 : Memref sig .tc .smem S1 .f32) → arg2.IsWhole → (arg3 : Memref sig .tc .smem S1 .f32) → arg3.IsWhole →
      (arg4 : Memref sig .tc .hbm S4096x2048 .f32) → arg4.IsWhole → (arg5 : Memref sig .tc .vmem S1024x4096 .fp8e4m3) → arg5.IsWhole →
      (arg6 : Memref sig .tc .vmem S1024x4096 .fp8e4m3) → arg6.IsWhole → (arg7 : Memref sig .tc .vmem S1024x4096 .fp8e4m3) → arg7.IsWhole →
      (arg8 : Memref sig .tc .vmem S4x512x2048 .f32) → arg8.IsWhole → (arg9 : Memref sig .tc .vmem S2x256x4096 .f32) → arg9.IsWhole →
      (arg10 : Memref sig .tc .vmem S1024x4096 .fp8e4m3) → arg10.IsWhole → (arg11 : Memref sig .tc .vmem S2x512x2048 .f32) → arg11.IsWhole →
      (arg12 : Memref sig .tc .vmem S4096x2048 .fp8e5m2) → arg12.IsWhole → DmaSems sig S8 → DmaSems sig S8 → DmaSems sig S10 → DmaSems sig S4 → β) : β :=
  f (Memref.whole main_arg0) (Memref.isWhole_whole _) (Memref.whole main_arg1) (Memref.isWhole_whole _)
    (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11

/-! ## The windows of `x` on their way in -/

theorem dev1_at : (⟨k0_dev1 c, k0_dev1_lt c⟩ : Dev nD) = prv c := Fin.ext (k0_dev1_eq c)
theorem dev2_at : (⟨k0_dev2 c, k0_dev2_lt c⟩ : Dev nD) = nxt c := Fin.ext (k0_dev2_eq c)
theorem castX' : S1x256x4096.ShapeCasts S256x4096 := shapeCasts_S1x256x4096_S256x4096
theorem castX : S256x4096.ShapeCasts S1x256x4096 := by decide

/-- Rows `r` of `x` where they were at launch. -/
abbrev xRows (r : ℕ) (hr : ∀ a, (![r, 0] : Fin 2 → ℕ) a + S256x4096.size a ≤ S1024x4096.size a := by decide) : sProp 𝕄 :=
  owns (c : Thread nD τ) (win xH (q256 r hr)) fullShare (cut (xIn m c) (q256 r hr))
/-- Rows `r` of `x` on their way into slot `i`. -/
abbrev xFly (i r : ℕ) (q : DmaSem sig) (hi : ∀ a, (![i, 0, 0] : Fin 3 → ℕ) a + S1x256x4096.size a ≤ S2x256x4096.size a := by decide)
    (hr : ∀ a, (![r, 0] : Fin 2 → ℕ) a + S256x4096.size a ≤ S1024x4096.size a := by decide) : sProp 𝕄 :=
  flyIn c q (win xH (q256 r hr)) (win xF (xSlot i hi)) squeezes_S1x256x4096_S256x4096 (cut (xIn m c) (q256 r hr))
/-- Rows `r` of `x` as a slot has them. -/
abbrev xTile (r : ℕ) (hr : ∀ a, (![r, 0] : Fin 2 → ℕ) a + S256x4096.size a ≤ S1024x4096.size a := by decide) : Vec F S1x256x4096 .f32 :=
  shapeCast S1x256x4096 (cut (xIn m c) (q256 r hr)) castX
/-- Slot `i` holding rows `r` of `x`. -/
abbrev xGot (i r : ℕ) (hi : ∀ a, (![i, 0, 0] : Fin 3 → ℕ) a + S1x256x4096.size a ≤ S2x256x4096.size a := by decide)
    (hr : ∀ a, (![r, 0] : Fin 2 → ℕ) a + S256x4096.size a ≤ S1024x4096.size a := by decide) : sProp 𝕄 :=
  owns (c : Thread nD τ) (win xF (xSlot i hi)) fullShare (xTile m c r hr)
/-- Slot `i` free. -/
abbrev xFree (i : ℕ) (hi : ∀ a, (![i, 0, 0] : Fin 3 → ℕ) a + S1x256x4096.size a ≤ S2x256x4096.size a := by decide) : sProp 𝕄 :=
  anyAt (c : Thread nD τ) (win xF (xSlot i hi))
/-- Rows `r` of the quantised block, and their place before they are written. -/
abbrev x8Rows (r : ℕ) (hr : ∀ a, (![r, 0] : Fin 2 → ℕ) a + S256x4096.size a ≤ S1024x4096.size a := by decide) : sProp 𝕄 :=
  owns (c : Thread nD τ) (win x8 (q256 r hr)) fullShare (cut (X8 m c) (q256 r hr))
abbrev x8Free (r : ℕ) (hr : ∀ a, (![r, 0] : Fin 2 → ℕ) a + S256x4096.size a ≤ S1024x4096.size a := by decide) : sProp 𝕄 :=
  anyAt (c : Thread nD τ) (win x8 (q256 r hr))

/-- A load semaphore at rest. -/
abbrev ldZero (i : Fin 4) : sProp 𝕄 := semVal ((c : Thread nD τ), .dma (loadS i)) 0

/-- What the conversion writes of rows read from a slot is those rows of the quantised block. -/
theorem pay_x (r : ℕ) (hr) : k0_pay1 (F := F) (xTile m c r hr) = cut (X8 m c) (q256 r hr) := by
  unfold k0_pay1
  dsimp only
  rw [shapeCast_shapeCast, shapeCast_self]
  rfl

theorem part1 {k : (Σ' (d0 : Dev nD) (v2 : BitVec 32) (v4 : BitVec 32) (v6 : BitVec 32), BitVec 32) → Prog (TpuEff nD τ sig (Elt F) Λ₀ .tc) α} :
    iprop(env m K ∗ (∃ W, owes (c : Thread nD τ) (O₀ c) W) ∗ dutyTok ER (barCell (prv c)) 0 true ∗ dutyTok ER (barCell (nxt c)) 0 false
        ∗ lendL c ∗ lendR c ∗ cred (tallyAt (barCell c) () 2) ∗ atPos ER (barCell c) 0 ∅ 0
        ∗ (xRows m c 0 ∗ xFree (F := F) c 0 ∗ ldZero c 0) ∗ (xRows m c 256 ∗ xFree (F := F) c 1 ∗ ldZero c 1))
      ⊢ iprop((∀ v2 v4 v6 v8, (due c order ∗ semVal (barCell c) 0 ∗ lendR (prv c) ∗ lendL (nxt c) ∗ xFly m c 0 0 (loadS 0) ∗ xFly m c 1 256 (loadS 1))
          -∗ go c (k ⟨c, v2, v4, v6, v8⟩) Q)
        -∗ go c (onArgs (k0_part1 (F := F)) >>= k) Q) := by
  rw [k0_part1_eq_skeleton]; unfold onArgs k0_part1_skel
  simp only [semSignalWord, semWaitWord, Prog.lift, Prog.bind_op, Prog.bind_ret, Prog.pure_eq_ret, wp_deviceId]
  iintro ⟨#He, ⟨%W, HO⟩, Ht1, Ht2, HlL, HlR, Hc, Hat, ⟨Hx0, Hs0, Hz0⟩, ⟨Hx1, Hs1, Hz1⟩⟩ Hk
  ihave #Hp := (env_cell m K (prv c, none)) $$ He
  ihave #Hn := (env_cell m K (nxt c, none)) $$ He
  ihave #Hb := (env_cell m K (c, none)) $$ He
  icases Hp with ⟨#HIp, #HRp⟩
  icases Hn with ⟨#HIn, #HRn⟩
  icases Hb with ⟨#HIb, -⟩
  rw [dev1_at c, dev2_at c]
  iapply (Rounds.wp_signal 𝒱₀ ER (ringRd m) (c : Thread nD τ) none (dst := (prv c : Thread nD τ)) (κ := K (prv c, none))
      (d := true) (by rw [duties_bar]; exact Finset.mem_univ _) (amount_bar m (prv c) true) () (O₁ c) rfl) $$ [HO Ht1 HlL]
  · isplitr; · iexact HIp
    isplitl [HO]; · iexact HO
    isplitl [Ht1]; · iexact Ht1
    isplitl [HlL]
    · rw [show (ringRd m).payload ((prv c : Thread nD τ), SemLoc.reg barS) 0 true = lendL (nxt (prv c)) from payload_at m (prv c) none true, nxt_prv]
      iexact HlL
    · iexact HRp
  iintro HO
  iapply (Rounds.wp_signal 𝒱₀ ER (ringRd m) (c : Thread nD τ) none (dst := (nxt c : Thread nD τ)) (κ := K (nxt c, none))
      (d := false) (by rw [duties_bar]; exact Finset.mem_univ _) (amount_bar m (nxt c) false) () (owed c order) rfl) $$ [HO Ht2 HlR]
  · isplitr; · iexact HIn
    isplitl [HO]; · iexact HO
    isplitl [Ht2]; · iexact Ht2
    isplitl [HlR]
    · rw [show (ringRd m).payload ((nxt c : Thread nD τ), SemLoc.reg barS) 0 false = lendR (prv (nxt c)) from payload_at m (nxt c) none false, prv_nxt]
      iexact HlR
    · iexact HRn
  iintro HO
  iapply (Rounds.wp_wait_rest_token 𝒱₀ ER (ringRd m) (c : Thread nD τ) none (κ := K (c, none))
      (wpE_semWait_eq 𝒱₀ (c : Thread nD τ) none Set.univ) (Set.mem_univ _) () (O := owed c order) (W := W) (R := 0) (m := 0) (T := ∅)
      (by rw [expect_bar]; decide)) $$ [Hc HO Hat]
  · isplitr; · iexact HIb
    isplitl [Hc]; · iexact Hc
    isplitl [HO]; · iexact HO
    isplitr
    · iapply (mayWait_owed c (.reg barS) order (by decide))
      iapply (env_lev m K) $$ He
    iexact Hat
  iintro ⟨HO, Hat, -, Hpay⟩
  ihave Hpay := (Entails.of_eq (rest_bar m c)) $$ Hpay
  icases Hpay with ⟨HpR, HpL⟩
  imod (Rounds.cell_close ER (ringRd m) (Set.mem_univ (K (c, none))) (fun h => h) (R := 0 + 1) (duties_later m (barCell c))) $$ [Hat] with Hzb
  · isplitr; · iexact HIb
    iexact Hat
  iapply (step_in c castX' (by decide)) $$ [Hx0 Hs0 Hz0]
  · isplitl [Hx0]; · iexact Hx0
    isplitl [Hs0]; · iexact Hs0
    iexact Hz0
  iintro Hf0
  iapply (step_in c castX' (by decide)) $$ [Hx1 Hs1 Hz1]
  · isplitl [Hx1]; · iexact Hx1
    isplitl [Hs1]; · iexact Hs1
    iexact Hz1
  iintro Hf1
  iapply Hk
  isplitl [HO]; · unfold due; iexists _; iexact HO
  isplitl [Hzb]; · iexact Hzb
  isplitl [HpR]; · iexact HpR
  isplitl [HpL]; · iexact HpL
  isplitl [Hf0]; · iexact Hf0
  iexact Hf1

/-! ## The quantised halves and the copies of them -/

/-- Half of the quantised block at a share. -/
abbrev x8Half (r : ℕ) (q : PosShare TreeShare) (hr : ∀ a, (![r, 0] : Fin 2 → ℕ) a + S512x4096.size a ≤ S1024x4096.size a := by decide) : sProp 𝕄 :=
  owns (c : Thread nD τ) (win x8 (h512 r hr)) q (cut (X8 m c) (h512 r hr))

theorem x8_written (r : ℕ) (hr : ∀ a, (![r, 0] : Fin 2 → ℕ) a + S256x4096.size a ≤ S1024x4096.size a) {w : FVec F S256x4096 .fp8e4m3}
    (h : w = cut (X8 m c) (q256 r hr)) : owns (c : Thread nD τ) (win x8 (q256 r hr)) fullShare w ⊢ x8Rows m c r hr := by subst h; exact .rfl

/-- Two written quarters are a half, in its three shares. -/
theorem x8_half (r : ℕ) (hr : ∀ a, (![r, 0] : Fin 2 → ℕ) a + S256x4096.size a ≤ S1024x4096.size a)
    (hr' : ∀ a, (![r + 256, 0] : Fin 2 → ℕ) a + S256x4096.size a ≤ S1024x4096.size a)
    (hh : ∀ a, (![r, 0] : Fin 2 → ℕ) a + S512x4096.size a ≤ S1024x4096.size a) : iprop(x8Rows m c r hr ∗ x8Rows m c (r + 256) hr')
    ⊢ iprop(x8Half m c r qK hh ∗ x8Half m c r qA hh ∗ x8Half m c r qB hh) := by
  iintro H
  ihave H := (cut_two c cc0_scratch5 (r := h512 r hh) (r₁ := q256 r hr) (r₂ := q256 (r + 256) hr')
    (rows_disjoint (R := 1024) (C := 4096) (n := 256) (n' := 256)) (rows_union (R := 1024) (C := 4096) (n := 256) (n' := 256))
    (fun _ => rfl) (fun _ => rfl) (fun _ => rfl) fullShare (X8 m c)).2 $$ H
  ihave H := (owns_share (c : Thread nD τ) (win x8 (h512 r hh) (fun _ => rfl)) (PosShare.mem_left_op_right fullShare) (cut (X8 m c) (h512 r hh))) $$ H
  icases H with ⟨H1, H2⟩
  isplitl [H1]; · iexact H1
  iapply (owns_share (c : Thread nD τ) (win x8 (h512 r hh) (fun _ => rfl)) (PosShare.mem_left_op_right fullShare.right) (cut (X8 m c) (h512 r hh))) $$ H2

/-- What copy `i` of device `c` leaves where it lands, at the contents it had at `c`. -/
def sentTo (i : Fin 8) : sProp 𝕄 :=
  match i with
  | 0 => owns (nxt c : Thread nD τ) (win rL (h512 0)) fullShare (cut (X8 m c) (h512 0))
  | 1 => owns (nxt c : Thread nD τ) (win rL (h512 512)) fullShare (cut (X8 m c) (h512 512))
  | 2 => owns (prv c : Thread nD τ) (win rR (h512 0)) fullShare (cut (X8 m c) (h512 0))
  | 3 => owns (prv c : Thread nD τ) (win rR (h512 512)) fullShare (cut (X8 m c) (h512 512))
  | 4 => owns (nxt c : Thread nD τ) (win rD (q256 0)) fullShare (cut (X8 m (prv c)) (q256 0))
  | 5 => owns (nxt c : Thread nD τ) (win rD (q256 256)) fullShare (cut (X8 m (prv c)) (q256 256))
  | 6 => owns (prv c : Thread nD τ) (win rD (q256 512)) fullShare (cut (X8 m (nxt c)) (q256 512))
  | 7 => owns (prv c : Thread nD τ) (win rD (q256 768)) fullShare (cut (X8 m (nxt c)) (q256 768))

/-- It is what the receive cell promises there. -/
theorem recv_eq (i : Fin 8) : recvPay m (tgt c i) i = sentTo m c i := by
  fin_cases i <;> simp only [recvPay, sentTo, tgt] <;> simp [prv_nxt, nxt_prv, opp_nxt, opp_prv]

/-- What issuing copy `i` takes of the protocol, and what it gives. -/
abbrev tok (i : Fin 8) : sProp 𝕄 := iprop(dutyTok ER (sendCell c i) 0 false ∗ dutyTok ER (recvCell (tgt c i) i) 0 false)
abbrev sent (i : Fin 8) : sProp 𝕄 := cred (tallyAt (sendCell c i) () (amt i))

theorem dev3_at : (⟨k0_dev3 c, k0_dev3_lt c⟩ : Dev nD) = nxt c := Fin.ext (k0_dev3_eq c)
theorem dev4_at : (⟨k0_dev4 c, k0_dev4_lt c⟩ : Dev nD) = prv c := Fin.ext (k0_dev4_eq c)
theorem dev5_at : (⟨k0_dev5 c, k0_dev5_lt c⟩ : Dev nD) = nxt c := Fin.ext (k0_dev5_eq c)
theorem dev6_at : (⟨k0_dev6 c, k0_dev6_lt c⟩ : Dev nD) = prv c := Fin.ext (k0_dev6_eq c)

/-- The first two quarters are quantised; the third is on its way in. -/
theorem part2 {k : PUnit → Prog (TpuEff nD τ sig (Elt F) Λ₀ .tc) α} :
    iprop(env m K ∗ due c order ∗ xFly m c 0 0 (loadS 0) ∗ xFly m c 1 256 (loadS 1) ∗ x8Free (F := F) c 0 ∗ x8Free (F := F) c 256 ∗ xRows m c 512)
      ⊢ iprop(((due c order ∗ xRows m c 0 ∗ xRows m c 256 ∗ x8Rows m c 0 ∗ x8Rows m c 256 ∗ xFly m c 0 512 (loadS 0) ∗ xFree (F := F) c 1 ∗ ldZero c 1)
          -∗ go c (k ⟨⟩) Q)
        -∗ go c (onArgs (k0_part2 (F := F)) >>= k) Q) := by
  rw [k0_part2_eq_skeleton]; unfold onArgs k0_part2_skel
  simp only [Prog.lift, Prog.bind_op, Prog.bind_ret, Prog.pure_eq_ret]
  iintro ⟨#He, HO, Hf0, Hf1, Hy0, Hy1, Hx2⟩ Hk
  iapply (step_fetch m K c order castX rfl) $$ [Hf0 HO]
  · isplitl [Hf0]; · iexact Hf0
    isplitl [HO]; · iexact HO
    iexact He
  iintro ⟨Hs0, Hx0, Hz0, HO⟩
  iapply (wp_overwrite 𝒱₀ (c : Thread nD τ) none (fun _ => rfl)) $$ Hy0
  iintro Hy0
  iapply (step_in c castX' (by decide)) $$ [Hx2 Hs0 Hz0]
  · isplitl [Hx2]; · iexact Hx2
    isplitl [Hs0]; · iexact Hs0
    iexact Hz0
  iintro Hf2
  iapply (step_fetch m K c order castX rfl) $$ [Hf1 HO]
  · isplitl [Hf1]; · iexact Hf1
    isplitl [HO]; · iexact HO
    iexact He
  iintro ⟨Hs1, Hx1, Hz1, HO⟩
  iapply (wp_overwrite 𝒱₀ (c : Thread nD τ) none (fun _ => rfl)) $$ Hy1
  iintro Hy1
  iapply Hk
  isplitl [HO]; · iexact HO
  isplitl [Hx0]; · iexact Hx0
  isplitl [Hx1]; · iexact Hx1
  isplitl [Hy0]; · (iapply (x8_written m c 0 inb_S1024x4096_S256x4096_0_0 (pay_x m c 0 inb_S1024x4096_S256x4096_0_0)); iexact Hy0)
  isplitl [Hy1]; · (iapply (x8_written m c 256 inb_S1024x4096_S256x4096_256_0 (pay_x m c 256 inb_S1024x4096_S256x4096_256_0)); iexact Hy1)
  isplitl [Hf2]; · iexact Hf2
  isplitl [Hs1]; · iexact Hs1
  iexact Hz1

/-- The first half goes to both neighbours; the last quarter is on its way in; the third is read. -/
theorem part3 (v4 v6 : BitVec 32) {k : Vec F S1x256x4096 .f32 → Prog (TpuEff nD τ sig (Elt F) Λ₀ .tc) α} :
    iprop(env m K ∗ due c order ∗ x8Rows m c 0 ∗ x8Rows m c 256 ∗ anyAt (nxt c : Thread nD τ) (win rL (h512 0)) ∗ anyAt (prv c : Thread nD τ) (win rR (h512 0))
        ∗ tok c 0 ∗ tok c 2 ∗ xRows m c 768 ∗ xFree (F := F) c 1 ∗ ldZero c 1 ∗ xFly m c 0 512 (loadS 0))
      ⊢ iprop(((due c [1, 3, 4, 5, 6, 7] ∗ x8Half m c 0 qK ∗ sent c 0 ∗ sent c 2 ∗ xFly m c 1 768 (loadS 1) ∗ xRows m c 512 ∗ xFree (F := F) c 0 ∗ ldZero c 0)
          -∗ go c (k (xTile m c 512)) Q)
        -∗ go c (onArgs (k0_part3 (F := F)) c v4 v6 >>= k) Q) := by
  rw [k0_part3_eq_skeleton]; unfold onArgs k0_part3_skel
  simp only [Prog.lift, Prog.bind_op, Prog.bind_ret, Prog.pure_eq_ret]
  iintro ⟨#He, HO, Hy0, Hy1, HdL, HdR, ⟨Hts0, Htr0⟩, ⟨Hts2, Htr2⟩, Hx3, Hs1, Hz1, Hf2⟩ Hk
  ihave Hy := (x8_half m c 0 _ _ (by decide)) $$ [Hy0 Hy1]
  · isplitl [Hy0]; · iexact Hy0
    iexact Hy1
  icases Hy with ⟨HyK, HyA, HyB⟩
  iapply (step_send m K c [2, 1, 3, 4, 5, 6, 7] 0 (dev3_at c) (src := win x8 (h512 0)) (dst := win rL (h512 0)) (q := qA)
    (X := cut (X8 m c) (h512 0)) rfl .rfl (Entails.of_eq (recv_eq m c 0).symm)) $$ [HyA HdL HO Hts0 Htr0]
  · isplitr; · iexact He
    isplitl [HyA]; · iexact HyA
    isplitl [HdL]; · iexact HdL
    isplitl [HO]; · iexact HO
    isplitl [Hts0]; · iexact Hts0
    iexact Htr0
  iintro ⟨Hc0, HO⟩
  iapply (step_send m K c [1, 3, 4, 5, 6, 7] 2 (dev4_at c) (src := win x8 (h512 0)) (dst := win rR (h512 0)) (q := qB)
    (X := cut (X8 m c) (h512 0)) rfl .rfl (Entails.of_eq (recv_eq m c 2).symm)) $$ [HyB HdR HO Hts2 Htr2]
  · isplitr; · iexact He
    isplitl [HyB]; · iexact HyB
    isplitl [HdR]; · iexact HdR
    isplitl [HO]; · iexact HO
    isplitl [Hts2]; · iexact Hts2
    iexact Htr2
  iintro ⟨Hc2, HO⟩
  iapply (step_in c castX' (by decide)) $$ [Hx3 Hs1 Hz1]
  · isplitl [Hx3]; · iexact Hx3
    isplitl [Hs1]; · iexact Hs1
    iexact Hz1
  iintro Hf3
  iapply (step_fetch m K c [1, 3, 4, 5, 6, 7] castX rfl) $$ [Hf2 HO]
  · isplitl [Hf2]; · iexact Hf2
    isplitl [HO]; · iexact HO
    iexact He
  iintro ⟨Hs0, Hx2, Hz0, HO⟩
  iapply Hk
  isplitl [HO]; · iexact HO
  isplitl [HyK]; · iexact HyK
  isplitl [Hc0]; · iexact Hc0
  isplitl [Hc2]; · iexact Hc2
  isplitl [Hf3]; · iexact Hf3
  isplitl [Hx2]; · iexact Hx2
  isplitl [Hs0]; · iexact Hs0
  iexact Hz0

/-- The last two quarters are quantised; the second half goes to the right. -/
theorem part4 (v4 v6 : BitVec 32) {k : PUnit → Prog (TpuEff nD τ sig (Elt F) Λ₀ .tc) α} :
    iprop(env m K ∗ due c [1, 3, 4, 5, 6, 7] ∗ x8Free (F := F) c 512 ∗ x8Free (F := F) c 768 ∗ xFly m c 1 768 (loadS 1)
        ∗ anyAt (nxt c : Thread nD τ) (win rL (h512 512)) ∗ tok c 1)
      ⊢ iprop(((due c [3, 4, 5, 6, 7] ∗ x8Half m c 512 qK ∗ x8Half m c 512 qB ∗ sent c 1 ∗ xRows m c 768 ∗ xFree (F := F) c 1 ∗ ldZero c 1)
          -∗ go c (k ⟨⟩) Q)
        -∗ go c (onArgs (k0_part4 (F := F)) c v4 v6 (xTile m c 512) >>= k) Q) := by
  rw [k0_part4_eq_skeleton]; unfold onArgs k0_part4_skel
  simp only [Prog.lift, Prog.bind_op, Prog.bind_ret, Prog.pure_eq_ret]
  iintro ⟨#He, HO, Hy2, Hy3, Hf3, HdL, ⟨Hts, Htr⟩⟩ Hk
  iapply (wp_overwrite 𝒱₀ (c : Thread nD τ) none (fun _ => rfl)) $$ Hy2
  iintro Hy2
  iapply (step_fetch m K c [1, 3, 4, 5, 6, 7] castX rfl) $$ [Hf3 HO]
  · isplitl [Hf3]; · iexact Hf3
    isplitl [HO]; · iexact HO
    iexact He
  iintro ⟨Hs1, Hx3, Hz1, HO⟩
  iapply (wp_overwrite 𝒱₀ (c : Thread nD τ) none (fun _ => rfl)) $$ Hy3
  iintro Hy3
  ihave Hy := (x8_half m c 512 (by decide) (by decide) (by decide)) $$ [Hy2 Hy3]
  · isplitl [Hy2]; · iapply (x8_written m c 512 inb_S1024x4096_S256x4096_512_0 (pay_x m c 512 inb_S1024x4096_S256x4096_512_0)); iexact Hy2
    iapply (x8_written m c 768 inb_S1024x4096_S256x4096_768_0 (pay_x m c 768 inb_S1024x4096_S256x4096_768_0)); iexact Hy3
  icases Hy with ⟨HyK, HyA, HyB⟩
  iapply (step_send m K c [3, 4, 5, 6, 7] 1 (dev5_at c) (src := win x8 (h512 512)) (dst := win rL (h512 512)) (q := qA)
    (X := cut (X8 m c) (h512 512)) rfl .rfl (Entails.of_eq (recv_eq m c 1).symm)) $$ [HyA HdL HO Hts Htr]
  · isplitr; · iexact He
    isplitl [HyA]; · iexact HyA
    isplitl [HdL]; · iexact HdL
    isplitl [HO]; · iexact HO
    isplitl [Hts]; · iexact Hts
    iexact Htr
  iintro ⟨Hc, HO⟩
  iapply Hk
  isplitl [HO]; · iexact HO
  isplitl [HyK]; · iexact HyK
  isplitl [HyB]; · iexact HyB
  isplitl [Hc]; · iexact Hc
  isplitl [Hx3]; · iexact Hx3
  isplitl [Hs1]; · iexact Hs1
  iexact Hz1

end Cert.KProof

end
-- ==== Proof.Parts2.lean ====
/-
# 01_k — `Parts2`: the quantisation of `w`

The last copy of the device's own block, then the eight tiles of `w`, two slots alternating; then the scales are read.
-/
module

public import proofs.«01_k».proof.Proof.Parts1

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ) (c : Dev nD)
variable {α : Type} {Q : α → sProp (MT nD τ sig Unit (Elt F) ℕ UU ℕ)}

/-! ## The tiles of `w` on their way in -/

theorem castW' : S1x512x2048.ShapeCasts S512x2048 := shapeCasts_S1x512x2048_S512x2048
theorem castW : S512x2048.ShapeCasts S1x512x2048 := by decide

/-- Rows `r` of `w` where they were at launch. -/
abbrev wRows (r : ℕ) (hr : ∀ a, (![r, 0] : Fin 2 → ℕ) a + S512x2048.size a ≤ S4096x2048.size a := by decide) : sProp 𝕄 :=
  owns (c : Thread nD τ) (win wH (t512 ![r, 0] hr)) fullShare (cut (wIn m c) (t512 ![r, 0] hr))
/-- Rows `r` of `w` on their way into slot `i`. -/
abbrev wFly (i r : ℕ) (q : DmaSem sig) (hi : ∀ a, (![i, 0, 0] : Fin 3 → ℕ) a + S1x512x2048.size a ≤ S2x512x2048.size a := by decide)
    (hr : ∀ a, (![r, 0] : Fin 2 → ℕ) a + S512x2048.size a ≤ S4096x2048.size a := by decide) : sProp 𝕄 :=
  flyIn c q (win wH (t512 ![r, 0] hr)) (win wF (wSlot i hi)) squeezes_S1x512x2048_S512x2048 (cut (wIn m c) (t512 ![r, 0] hr))
/-- Rows `r` of `w` as a slot has them. -/
abbrev wTile (r : ℕ) (hr : ∀ a, (![r, 0] : Fin 2 → ℕ) a + S512x2048.size a ≤ S4096x2048.size a := by decide) : Vec F S1x512x2048 .f32 :=
  shapeCast S1x512x2048 (cut (wIn m c) (t512 ![r, 0] hr)) castW
/-- Slot `i` free. -/
abbrev wFree (i : ℕ) (hi : ∀ a, (![i, 0, 0] : Fin 3 → ℕ) a + S1x512x2048.size a ≤ S2x512x2048.size a := by decide) : sProp 𝕄 :=
  anyAt (c : Thread nD τ) (win wF (wSlot i hi))
/-- Rows `r` of the quantised column block, and their place before they are written. -/
abbrev w8Rows (r : ℕ) (hr : ∀ a, (![r, 0] : Fin 2 → ℕ) a + S512x2048.size a ≤ S4096x2048.size a := by decide) : sProp 𝕄 :=
  owns (c : Thread nD τ) (win w8 (t512 ![r, 0] hr)) fullShare (cut (W8 m c) (t512 ![r, 0] hr))
abbrev w8Free (r : ℕ) (hr : ∀ a, (![r, 0] : Fin 2 → ℕ) a + S512x2048.size a ≤ S4096x2048.size a := by decide) : sProp 𝕄 :=
  anyAt (c : Thread nD τ) (win w8 (t512 ![r, 0] hr))

/-- What the conversion writes of a tile read from a slot is that tile of the quantised column block. -/
theorem pay_w (r : ℕ) (hr) : k0_pay5 (F := F) (wTile m c r hr) = cut (W8 m c) (t512 ![r, 0] hr) := by
  unfold k0_pay5
  dsimp only
  rw [shapeCast_shapeCast, shapeCast_self]
  rfl
/-- The same when the conversion is returned first and written later. -/
theorem pay_w' (r : ℕ) (hr) : k0_pay7 (F := F) (wTile m c r hr) = cut (W8 m c) (t512 ![r, 0] hr) := by
  unfold k0_pay7
  dsimp only
  rw [shapeCast_shapeCast]
  rfl
theorem pay_w'' (Y : FVec F S512x2048 .fp8e5m2) : k0_pay8 (F := F) Y = Y := by
  unfold k0_pay8
  dsimp only
  rw [shapeCast_self]

theorem w8_written (r : ℕ) (hr : ∀ a, (![r, 0] : Fin 2 → ℕ) a + S512x2048.size a ≤ S4096x2048.size a) {w : FVec F S512x2048 .fp8e5m2}
    (h : w = cut (W8 m c) (t512 ![r, 0] hr)) : owns (c : Thread nD τ) (win w8 (t512 ![r, 0] hr)) fullShare w ⊢ w8Rows m c r hr := by subst h; exact .rfl

/-- The second half goes to the left; the first two tiles of `w` are on their way in, the first is quantised. -/
theorem part5 {k : PUnit → Prog (TpuEff nD τ sig (Elt F) Λ₀ .tc) α} :
    iprop(env m K ∗ due c [3, 4, 5, 6, 7] ∗ x8Half m c 512 qB ∗ anyAt (prv c : Thread nD τ) (win rR (h512 512)) ∗ tok c 3
        ∗ wRows m c 0 ∗ wRows m c 512 ∗ wFree (F := F) c 0 ∗ wFree (F := F) c 1 ∗ ldZero c 2 ∗ ldZero c 3 ∗ w8Free (F := F) c 0)
      ⊢ iprop(((due c [4, 5, 6, 7] ∗ sent c 3 ∗ wRows m c 0 ∗ wFree (F := F) c 0 ∗ ldZero c 2 ∗ w8Rows m c 0 ∗ wFly m c 1 512 (loadS 3))
          -∗ go c (k ⟨⟩) Q)
        -∗ go c (onArgs (k0_part5 (F := F)) c >>= k) Q) := by
  rw [k0_part5_eq_skeleton]; unfold onArgs k0_part5_skel
  simp only [Prog.lift, Prog.bind_op, Prog.bind_ret, Prog.pure_eq_ret]
  iintro ⟨#He, HO, HyB, HdR, ⟨Hts, Htr⟩, Hw0, Hw1, Hs0, Hs1, Hz2, Hz3, Hv0⟩ Hk
  iapply (step_send m K c [4, 5, 6, 7] 3 (dev6_at c) (src := win x8 (h512 512)) (dst := win rR (h512 512)) (q := qB)
    (X := cut (X8 m c) (h512 512)) rfl .rfl (Entails.of_eq (recv_eq m c 3).symm)) $$ [HyB HdR HO Hts Htr]
  · isplitr; · iexact He
    isplitl [HyB]; · iexact HyB
    isplitl [HdR]; · iexact HdR
    isplitl [HO]; · iexact HO
    isplitl [Hts]; · iexact Hts
    iexact Htr
  iintro ⟨Hc, HO⟩
  iapply (step_in c castW' (by decide)) $$ [Hw0 Hs0 Hz2]
  · isplitl [Hw0]; · iexact Hw0
    isplitl [Hs0]; · iexact Hs0
    iexact Hz2
  iintro Hf0
  iapply (step_in c castW' (by decide)) $$ [Hw1 Hs1 Hz3]
  · isplitl [Hw1]; · iexact Hw1
    isplitl [Hs1]; · iexact Hs1
    iexact Hz3
  iintro Hf1
  iapply (step_fetch m K c [4, 5, 6, 7] castW rfl) $$ [Hf0 HO]
  · isplitl [Hf0]; · iexact Hf0
    isplitl [HO]; · iexact HO
    iexact He
  iintro ⟨Hs0, Hw0, Hz2, HO⟩
  iapply (wp_overwrite 𝒱₀ (c : Thread nD τ) none (fun _ => rfl)) $$ Hv0
  iintro Hv0
  iapply Hk
  isplitl [HO]; · iexact HO
  isplitl [Hc]; · iexact Hc
  isplitl [Hw0]; · iexact Hw0
  isplitl [Hs0]; · iexact Hs0
  isplitl [Hz2]; · iexact Hz2
  isplitl [Hv0]; · (iapply (w8_written m c 0 inb_S4096x2048_S512x2048_0_0 (pay_w m c 0 inb_S4096x2048_S512x2048_0_0)); iexact Hv0)
  iexact Hf1

/-- The second tile is quantised and the third read; the fourth is on its way in. -/
theorem part6 {k : FVec F S512x2048 .fp8e5m2 → Prog (TpuEff nD τ sig (Elt F) Λ₀ .tc) α} :
    iprop(env m K ∗ due c [4, 5, 6, 7] ∗ wRows m c 1024 ∗ wRows m c 1536 ∗ wFree (F := F) c 0 ∗ ldZero c 2 ∗ wFly m c 1 512 (loadS 3) ∗ w8Free (F := F) c 512)
      ⊢ iprop(((due c [4, 5, 6, 7] ∗ w8Rows m c 512 ∗ wRows m c 512 ∗ wRows m c 1024 ∗ wFree (F := F) c 0 ∗ ldZero c 2 ∗ wFly m c 1 1536 (loadS 3))
          -∗ go c (k (k0_pay7 (wTile m c 1024))) Q)
        -∗ go c (onArgs (k0_part6 (F := F)) >>= k) Q) := by
  rw [k0_part6_eq_skeleton]; unfold onArgs k0_part6_skel
  simp only [Prog.lift, Prog.bind_op, Prog.bind_ret, Prog.pure_eq_ret]
  iintro ⟨#He, HO, Hw2, Hw3, Hs0, Hz2, Hf1, Hv1⟩ Hk
  iapply (step_in c castW' (by decide)) $$ [Hw2 Hs0 Hz2]
  · isplitl [Hw2]; · iexact Hw2
    isplitl [Hs0]; · iexact Hs0
    iexact Hz2
  iintro Hf2
  iapply (step_fetch m K c [4, 5, 6, 7] castW rfl) $$ [Hf1 HO]
  · isplitl [Hf1]; · iexact Hf1
    isplitl [HO]; · iexact HO
    iexact He
  iintro ⟨Hs1, Hw1, Hz3, HO⟩
  iapply (wp_overwrite 𝒱₀ (c : Thread nD τ) none (fun _ => rfl)) $$ Hv1
  iintro Hv1
  iapply (step_in c castW' (by decide)) $$ [Hw3 Hs1 Hz3]
  · isplitl [Hw3]; · iexact Hw3
    isplitl [Hs1]; · iexact Hs1
    iexact Hz3
  iintro Hf3
  iapply (step_fetch m K c [4, 5, 6, 7] castW rfl) $$ [Hf2 HO]
  · isplitl [Hf2]; · iexact Hf2
    isplitl [HO]; · iexact HO
    iexact He
  iintro ⟨Hs0, Hw2, Hz2, HO⟩
  iapply Hk
  isplitl [HO]; · iexact HO
  isplitl [Hv1]; · (iapply (w8_written m c 512 inb_S4096x2048_S512x2048_512_0 (pay_w m c 512 inb_S4096x2048_S512x2048_512_0)); iexact Hv1)
  isplitl [Hw1]; · iexact Hw1
  isplitl [Hw2]; · iexact Hw2
  isplitl [Hs0]; · iexact Hs0
  isplitl [Hz2]; · iexact Hz2
  iexact Hf3

/-- The third and fourth tiles are quantised; the next two are on their way in. -/
theorem part7 {k : PUnit → Prog (TpuEff nD τ sig (Elt F) Λ₀ .tc) α} :
    iprop(env m K ∗ due c [4, 5, 6, 7] ∗ w8Free (F := F) c 1024 ∗ w8Free (F := F) c 1536 ∗ wRows m c 2048 ∗ wRows m c 2560 ∗ wFree (F := F) c 0 ∗ ldZero c 2 ∗ wFly m c 1 1536 (loadS 3))
      ⊢ iprop(((due c [4, 5, 6, 7] ∗ w8Rows m c 1024 ∗ w8Rows m c 1536 ∗ wRows m c 1536 ∗ wFly m c 0 2048 (loadS 2) ∗ wFly m c 1 2560 (loadS 3))
          -∗ go c (k ⟨⟩) Q)
        -∗ go c (onArgs (k0_part7 (F := F)) (k0_pay7 (wTile m c 1024)) >>= k) Q) := by
  rw [k0_part7_eq_skeleton]; unfold onArgs k0_part7_skel
  simp only [Prog.lift, Prog.bind_op, Prog.bind_ret, Prog.pure_eq_ret]
  iintro ⟨#He, HO, Hv2, Hv3, Hw4, Hw5, Hs0, Hz2, Hf3⟩ Hk
  iapply (wp_overwrite 𝒱₀ (c : Thread nD τ) none (fun _ => rfl)) $$ Hv2
  iintro Hv2
  iapply (step_in c castW' (by decide)) $$ [Hw4 Hs0 Hz2]
  · isplitl [Hw4]; · iexact Hw4
    isplitl [Hs0]; · iexact Hs0
    iexact Hz2
  iintro Hf4
  iapply (step_fetch m K c [4, 5, 6, 7] castW rfl) $$ [Hf3 HO]
  · isplitl [Hf3]; · iexact Hf3
    isplitl [HO]; · iexact HO
    iexact He
  iintro ⟨Hs1, Hw3, Hz3, HO⟩
  iapply (wp_overwrite 𝒱₀ (c : Thread nD τ) none (fun _ => rfl)) $$ Hv3
  iintro Hv3
  iapply (step_in c castW' (by decide)) $$ [Hw5 Hs1 Hz3]
  · isplitl [Hw5]; · iexact Hw5
    isplitl [Hs1]; · iexact Hs1
    iexact Hz3
  iintro Hf5
  iapply Hk
  isplitl [HO]; · iexact HO
  isplitl [Hv2]; · (iapply (w8_written m c 1024 inb_S4096x2048_S512x2048_1024_0 ((pay_w'' _).trans (pay_w' m c 1024 inb_S4096x2048_S512x2048_1024_0))); iexact Hv2)
  isplitl [Hv3]; · (iapply (w8_written m c 1536 inb_S4096x2048_S512x2048_1536_0 (pay_w m c 1536 inb_S4096x2048_S512x2048_1536_0)); iexact Hv3)
  isplitl [Hw3]; · iexact Hw3
  isplitl [Hf4]; · iexact Hf4
  iexact Hf5

/-- The fifth and sixth tiles are quantised; the seventh is on its way in. -/
theorem part8 {k : PUnit → Prog (TpuEff nD τ sig (Elt F) Λ₀ .tc) α} :
    iprop(env m K ∗ due c [4, 5, 6, 7] ∗ w8Free (F := F) c 2048 ∗ w8Free (F := F) c 2560 ∗ wRows m c 3072 ∗ wFly m c 0 2048 (loadS 2) ∗ wFly m c 1 2560 (loadS 3))
      ⊢ iprop(((due c [4, 5, 6, 7] ∗ w8Rows m c 2048 ∗ w8Rows m c 2560 ∗ wRows m c 2048 ∗ wRows m c 2560 ∗ wFly m c 0 3072 (loadS 2) ∗ wFree (F := F) c 1 ∗ ldZero c 3)
          -∗ go c (k ⟨⟩) Q)
        -∗ go c (onArgs (k0_part8 (F := F)) >>= k) Q) := by
  rw [k0_part8_eq_skeleton]; unfold onArgs k0_part8_skel
  simp only [Prog.lift, Prog.bind_op, Prog.bind_ret, Prog.pure_eq_ret]
  iintro ⟨#He, HO, Hv4, Hv5, Hw6, Hf4, Hf5⟩ Hk
  iapply (step_fetch m K c [4, 5, 6, 7] castW rfl) $$ [Hf4 HO]
  · isplitl [Hf4]; · iexact Hf4
    isplitl [HO]; · iexact HO
    iexact He
  iintro ⟨Hs0, Hw4, Hz2, HO⟩
  iapply (wp_overwrite 𝒱₀ (c : Thread nD τ) none (fun _ => rfl)) $$ Hv4
  iintro Hv4
  iapply (step_in c castW' (by decide)) $$ [Hw6 Hs0 Hz2]
  · isplitl [Hw6]; · iexact Hw6
    isplitl [Hs0]; · iexact Hs0
    iexact Hz2
  iintro Hf6
  iapply (step_fetch m K c [4, 5, 6, 7] castW rfl) $$ [Hf5 HO]
  · isplitl [Hf5]; · iexact Hf5
    isplitl [HO]; · iexact HO
    iexact He
  iintro ⟨Hs1, Hw5, Hz3, HO⟩
  iapply (wp_overwrite 𝒱₀ (c : Thread nD τ) none (fun _ => rfl)) $$ Hv5
  iintro Hv5
  iapply Hk
  isplitl [HO]; · iexact HO
  isplitl [Hv4]; · (iapply (w8_written m c 2048 inb_S4096x2048_S512x2048_2048_0 (pay_w m c 2048 inb_S4096x2048_S512x2048_2048_0)); iexact Hv4)
  isplitl [Hv5]; · (iapply (w8_written m c 2560 inb_S4096x2048_S512x2048_2560_0 (pay_w m c 2560 inb_S4096x2048_S512x2048_2560_0)); iexact Hv5)
  isplitl [Hw4]; · iexact Hw4
  isplitl [Hw5]; · iexact Hw5
  isplitl [Hf6]; · iexact Hf6
  isplitl [Hs1]; · iexact Hs1
  iexact Hz3

/-! ## The scales -/

/-- The one element of a scale, and the product of two scales. -/
abbrev r1 : Rect S1 := Rect.unit (s := S1) ![0] S1.size inb_S1_S1_0
abbrev scOf (sa sb : FVec F S1 .f32) : F .f32 :=
  k0_pay14 (F := F) (cut sa r1 (Shape.Idx.first (numel1_S1.symm ▸ Nat.one_pos))) (cut sb r1 (Shape.Idx.first (numel1_S1.symm ▸ Nat.one_pos)))

/-- The last two tiles are quantised; the scales are read. -/
theorem part9 (qa qb : PosShare TreeShare) (sa sb : FVec F S1 .f32) {k : (Σ' (v240 : F .f32), BitVec 32) → Prog (TpuEff nD τ sig (Elt F) Λ₀ .tc) α} :
    iprop(env m K ∗ due c [4, 5, 6, 7] ∗ w8Free (F := F) c 3072 ∗ w8Free (F := F) c 3584 ∗ wRows m c 3584 ∗ wFly m c 0 3072 (loadS 2) ∗ wFree (F := F) c 1 ∗ ldZero c 3
        ∗ owns (c : Thread nD τ) (win aM r1) qa (cut sa r1) ∗ owns (c : Thread nD τ) (win bM r1) qb (cut sb r1))
      ⊢ iprop(((due c [4, 5, 6, 7] ∗ w8Rows m c 3072 ∗ w8Rows m c 3584 ∗ wRows m c 3072 ∗ wRows m c 3584 ∗ wFree (F := F) c 0 ∗ wFree (F := F) c 1 ∗ ldZero c 2 ∗ ldZero c 3
          ∗ owns (c : Thread nD τ) (win aM r1) qa (cut sa r1) ∗ owns (c : Thread nD τ) (win bM r1) qb (cut sb r1))
          -∗ go c (k ⟨scOf sa sb, 1024#32⟩) Q)
        -∗ go c (onArgs (k0_part9 (F := F)) >>= k) Q) := by
  rw [k0_part9_eq_skeleton]; unfold onArgs k0_part9_skel
  simp only [Prog.lift, Prog.bind_op, Prog.bind_ret, Prog.pure_eq_ret, smemLoad, smemLoadElt]
  iintro ⟨#He, HO, Hv6, Hv7, Hw7, Hf6, Hs1, Hz3, Ha, Hb⟩ Hk
  iapply (step_in c castW' (by decide)) $$ [Hw7 Hs1 Hz3]
  · isplitl [Hw7]; · iexact Hw7
    isplitl [Hs1]; · iexact Hs1
    iexact Hz3
  iintro Hf7
  iapply (step_fetch m K c [4, 5, 6, 7] castW rfl) $$ [Hf6 HO]
  · isplitl [Hf6]; · iexact Hf6
    isplitl [HO]; · iexact HO
    iexact He
  iintro ⟨Hs0, Hw6, Hz2, HO⟩
  iapply (wp_overwrite 𝒱₀ (c : Thread nD τ) none (fun _ => rfl)) $$ Hv6
  iintro Hv6
  iapply (step_fetch m K c [4, 5, 6, 7] castW rfl) $$ [Hf7 HO]
  · isplitl [Hf7]; · iexact Hf7
    isplitl [HO]; · iexact HO
    iexact He
  iintro ⟨Hs1, Hw7, Hz3, HO⟩
  iapply (wp_overwrite 𝒱₀ (c : Thread nD τ) none (fun _ => rfl)) $$ Hv7
  iintro Hv7
  iapply (wp_load_window 𝒱₀ (c : Thread nD τ) none (fun _ => rfl)) $$ Ha
  iintro Ha
  iapply (wp_load_window 𝒱₀ (c : Thread nD τ) none (fun _ => rfl)) $$ Hb
  iintro Hb
  iapply Hk
  isplitl [HO]; · iexact HO
  isplitl [Hv6]; · (iapply (w8_written m c 3072 inb_S4096x2048_S512x2048_3072_0 (pay_w m c 3072 inb_S4096x2048_S512x2048_3072_0)); iexact Hv6)
  isplitl [Hv7]; · (iapply (w8_written m c 3584 inb_S4096x2048_S512x2048_3584_0 (pay_w m c 3584 inb_S4096x2048_S512x2048_3584_0)); iexact Hv7)
  isplitl [Hw6]; · iexact Hw6
  isplitl [Hw7]; · iexact Hw7
  isplitl [Hs0]; · iexact Hs0
  isplitl [Hs1]; · iexact Hs1
  isplitl [Hz2]; · iexact Hz2
  isplitl [Hz3]; · iexact Hz3
  isplitl [Ha]; · iexact Ha
  iexact Hb

end Cert.KProof

end
-- ==== Proof.Parts3.lean ====
/-
# 01_k — `Parts3`: the first four products

The device's own two halves, then the first halves received from each neighbour: each product scaled, clipped at zero and
copied out of its slot to its rows of the result; the received halves are passed on.
-/
module

public import proofs.«01_k».proof.Proof.Parts2

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ) (c : Dev nD)
variable {α : Type} {Q : α → sProp (MT nD τ sig Unit (Elt F) ℕ UU ℕ)}

theorem castO' : S1x256x2048.ShapeCasts S256x2048 := shapeCasts_S1x256x2048_S256x2048
theorem castO : S256x2048.ShapeCasts S1x256x2048 := by decide

/-- All of a column block as one window. -/
abbrev wAll : Rect S4096x2048 := Rect.unit (s := S4096x2048) ![0, 0] S4096x2048.size inb_S4096x2048_S4096x2048_0_0
/-- The quantised column block, whole. -/
abbrev w8All : sProp 𝕄 := owns (c : Thread nD τ) (win w8 wAll) fullShare (cut (W8 m c) wAll)

/-! ## What is received -/

/-- The two received row blocks, by halves at a share, and the third by quarters. -/
abbrev rLHalf (r : ℕ) (q : PosShare TreeShare) (hr : ∀ a, (![r, 0] : Fin 2 → ℕ) a + S512x4096.size a ≤ S1024x4096.size a := by decide) : sProp 𝕄 :=
  owns (c : Thread nD τ) (win rL (h512 r hr)) q (cut (X8 m (prv c)) (h512 r hr))
abbrev rRHalf (r : ℕ) (q : PosShare TreeShare) (hr : ∀ a, (![r, 0] : Fin 2 → ℕ) a + S512x4096.size a ≤ S1024x4096.size a := by decide) : sProp 𝕄 :=
  owns (c : Thread nD τ) (win rR (h512 r hr)) q (cut (X8 m (nxt c)) (h512 r hr))
abbrev rDRows (r : ℕ) (hr : ∀ a, (![r, 0] : Fin 2 → ℕ) a + S256x4096.size a ≤ S1024x4096.size a := by decide) : sProp 𝕄 :=
  owns (c : Thread nD τ) (win rD (q256 r hr)) fullShare (cut (X8 m (opp c)) (q256 r hr))
/-- What a wait for a copy uses of the protocol, and the semaphore it leaves at zero. -/
abbrev waitR (i : Fin 8) : sProp 𝕄 := iprop(cred (tallyAt (recvCell c i) () (amt i)) ∗ atPos ER (recvCell c i) 0 ∅ 0)
abbrev waitS (i : Fin 8) : sProp 𝕄 := iprop(cred (tallyAt (sendCell c i) () (amt i)) ∗ atPos ER (sendCell c i) 0 ∅ 0)
abbrev recvZero (i : Fin 8) : sProp 𝕄 := semVal (recvCell c i) 0
abbrev sendZero (i : Fin 8) : sProp 𝕄 := semVal (sendCell c i) 0
abbrev copyZero (t : Fin 10) : sProp 𝕄 := semVal ((c : Thread nD τ), .dma (copyS t)) 0

/-- A received half: a share kept for the product, the rest passed on by quarters. -/
theorem rL_pass : pay m c (some (true, 0)) false ⊢ iprop(rLHalf m c 0 qK inb_S1024x4096_S512x4096_0_0
    ∗ owns (c : Thread nD τ) (win rL (q256 0 inb_S1024x4096_S256x4096_0_0) (fun _ => rfl)) qS (cut (X8 m (prv c)) (q256 0 inb_S1024x4096_S256x4096_0_0)) ∗ owns (c : Thread nD τ) (win rL (q256 256 inb_S1024x4096_S256x4096_256_0) (fun _ => rfl)) qS (cut (X8 m (prv c)) (q256 256 inb_S1024x4096_S256x4096_256_0))) := by
  iintro H
  ihave H := (show pay m c (some (true, 0)) false ⊢ rLHalf m c 0 fullShare inb_S1024x4096_S512x4096_0_0 from .rfl) $$ H
  ihave H := (owns_share (c : Thread nD τ) (win rL (h512 0 inb_S1024x4096_S512x4096_0_0) (fun _ => rfl)) (PosShare.mem_left_op_right fullShare) (cut (X8 m (prv c)) (h512 0 inb_S1024x4096_S512x4096_0_0))) $$ H
  icases H with ⟨H1, H2⟩
  isplitl [H1]; · iexact H1
  iapply (cut_two c cc0_scratch0 (r := h512 0 inb_S1024x4096_S512x4096_0_0) (r₁ := q256 0 inb_S1024x4096_S256x4096_0_0) (r₂ := q256 256 inb_S1024x4096_S256x4096_256_0)
    (rows_disjoint (R := 1024) (C := 4096) (n := 256) (n' := 256)) (rows_union (R := 1024) (C := 4096) (n := 256) (n' := 256))
    (fun _ => rfl) (fun _ => rfl) (fun _ => rfl) qS (X8 m (prv c))).1 $$ H2
theorem rR_pass : rRHalf m c 512 fullShare inb_S1024x4096_S512x4096_512_0 ⊢ iprop(rRHalf m c 512 qK inb_S1024x4096_S512x4096_512_0
    ∗ owns (c : Thread nD τ) (win rR (q256 512 inb_S1024x4096_S256x4096_512_0) (fun _ => rfl)) qS (cut (X8 m (nxt c)) (q256 512 inb_S1024x4096_S256x4096_512_0)) ∗ owns (c : Thread nD τ) (win rR (q256 768 inb_S1024x4096_S256x4096_768_0) (fun _ => rfl)) qS (cut (X8 m (nxt c)) (q256 768 inb_S1024x4096_S256x4096_768_0))) := by
  iintro H
  ihave H := (owns_share (c : Thread nD τ) (win rR (h512 512 inb_S1024x4096_S512x4096_512_0) (fun _ => rfl)) (PosShare.mem_left_op_right fullShare) (cut (X8 m (nxt c)) (h512 512 inb_S1024x4096_S512x4096_512_0))) $$ H
  icases H with ⟨H1, H2⟩
  isplitl [H1]; · iexact H1
  iapply (cut_two c cc0_scratch1 (r := h512 512 inb_S1024x4096_S512x4096_512_0) (r₁ := q256 512 inb_S1024x4096_S256x4096_512_0) (r₂ := q256 768 inb_S1024x4096_S256x4096_768_0)
    (rows_disjoint (R := 1024) (C := 4096) (n := 256) (n' := 256)) (rows_union (R := 1024) (C := 4096) (n := 256) (n' := 256))
    (fun _ => rfl) (fun _ => rfl) (fun _ => rfl) qS (X8 m (nxt c))).1 $$ H2

theorem dev7_at : (⟨k0_dev7 c, k0_dev7_lt c⟩ : Dev nD) = nxt c := Fin.ext (k0_dev7_eq c)
theorem dev8_at : (⟨k0_dev8 c, k0_dev8_lt c⟩ : Dev nD) = nxt c := Fin.ext (k0_dev8_eq c)
theorem dev9_at : (⟨k0_dev9 c, k0_dev9_lt c⟩ : Dev nD) = prv c := Fin.ext (k0_dev9_eq c)
theorem dev10_at : (⟨k0_dev10 c, k0_dev10_lt c⟩ : Dev nD) = prv c := Fin.ext (k0_dev10_eq c)

/-! ## The result's windows, and what is copied to each -/

variable (s : F .f32)

abbrev yw0 := win yH (t512 (k0_off1 c) (k0_off1_inb c))
abbrev yw1 := win yH (t512 (k0_off2 c) (k0_off2_inb c))
abbrev yw2 := win yH (t512 (k0_off3 c 3#32) (k0_off3_inb c 1))
abbrev yw3 := win yH (t512 (k0_off4 c 1#32) (k0_off4_inb c 0))
abbrev yw4 := win yH (t512 (k0_off4 c 3#32) (k0_off4_inb c 1))
abbrev yw5 := win yH (t512 (k0_off3 c 1#32) (k0_off3_inb c 0))
abbrev yw6 := win yH (t256 (k0_off5 c) (k0_off5_inb c))
abbrev yw7 := win yH (t256 (k0_off6 c 512#32) (k0_off6_inb c 1))
abbrev yw8 := win yH (t256 (k0_off6 c 256#32) (k0_off6_inb c 0))
abbrev yw9 := win yH (t256 (k0_off6 c 768#32) (k0_off6_inb c 2))

/-- A product of 512 rows, or of 256, with the column block: scaled, clipped at zero. -/
abbrev Y5 (A : Vec F S512x4096 .fp8e4m3) : FVec F S512x2048 .f32 := shapeCast S512x2048 (k0_pay15 s A (cut (W8 m c) wAll)) castW'
abbrev Y2 (A : Vec F S256x4096 .fp8e4m3) : FVec F S256x2048 .f32 := shapeCast S256x2048 (k0_pay21 s A (cut (W8 m c) wAll)) castO'
/-- The product of 512 rows, or of 256, of device `d`'s block. -/
abbrev V5 (d : Dev nD) (r : ℕ) (hr : ∀ a, (![r, 0] : Fin 2 → ℕ) a + S512x4096.size a ≤ S1024x4096.size a := by decide) : FVec F S512x2048 .f32 :=
  Y5 m c s (cut (X8 m d) (h512 r hr))
abbrev V2 (d : Dev nD) (r : ℕ) (hr : ∀ a, (![r, 0] : Fin 2 → ℕ) a + S256x4096.size a ≤ S1024x4096.size a := by decide) : FVec F S256x2048 .f32 :=
  Y2 m c s (cut (X8 m d) (q256 r hr))

/-- A copy of a slot, or of half a slot, to the result under way. -/
abbrev oFly (t : Fin 10) (i : ℕ) (y : Memref sig .tc .hbm S512x2048 .f32) (V : FVec F S512x2048 .f32)
    (hi : ∀ a, (![i, 0, 0] : Fin 3 → ℕ) a + S1x512x2048.size a ≤ S4x512x2048.size a := by decide) : sProp 𝕄 :=
  flyOut c (copyS t) (win oV (oSlot i hi)) squeezes_S1x512x2048_S512x2048 y V
abbrev oFlyH (t : Fin 10) (i r : ℕ) (y : Memref sig .tc .hbm S256x2048 .f32) (V : FVec F S256x2048 .f32)
    (hi : ∀ a, (![i, r, 0] : Fin 3 → ℕ) a + S1x256x2048.size a ≤ S4x512x2048.size a := by decide) : sProp 𝕄 :=
  flyOut c (copyS t) (win oV (oHalf i r hi)) squeezes_S1x256x2048_S256x2048 y V
abbrev oFree (i : ℕ) (hi : ∀ a, (![i, 0, 0] : Fin 3 → ℕ) a + S1x512x2048.size a ≤ S4x512x2048.size a := by decide) : sProp 𝕄 :=
  anyAt (c : Thread nD τ) (win oV (oSlot i hi))
abbrev oFreeH (i r : ℕ) (hi : ∀ a, (![i, r, 0] : Fin 3 → ℕ) a + S1x256x2048.size a ≤ S4x512x2048.size a := by decide) : sProp 𝕄 :=
  anyAt (c : Thread nD τ) (win oV (oHalf i r hi))

/-- The products of the device's own halves; the first is on its way out. -/
theorem part10 (v2 w : BitVec 32) {k : PUnit → Prog (TpuEff nD τ sig (Elt F) Λ₀ .tc) α} :
    iprop(x8Half m c 0 qK ∗ x8Half m c 512 qK ∗ w8All m c ∗ oFree (F := F) c 0 ∗ oFree (F := F) c 1 ∗ anyAt (c : Thread nD τ) (yw0 c) ∗ copyZero c 0)
      ⊢ iprop(((x8Half m c 0 qK ∗ x8Half m c 512 qK ∗ w8All m c ∗ oFly c 0 0 (yw0 c) (V5 m c s c 0) ∗ owns (c : Thread nD τ) (win oV (oSlot 1)) fullShare (k0_pay15 s (cut (X8 m c) (h512 512)) (cut (W8 m c) wAll)))
          -∗ go c (k ⟨⟩) Q)
        -∗ go c (onArgs (k0_part10 (F := F)) c v2 s w >>= k) Q) := by
  rw [k0_part10_eq_skeleton]; unfold onArgs k0_part10_skel
  simp only [Prog.lift, Prog.bind_op, Prog.bind_ret, Prog.pure_eq_ret]
  iintro ⟨Ha, Hb, Hw, Ho0, Ho1, Hy0, Hz0⟩ Hk
  iapply (wp_load_window 𝒱₀ (c : Thread nD τ) none (fun _ => rfl)) $$ Ha
  iintro Ha
  iapply (wp_load_window 𝒱₀ (c : Thread nD τ) none (fun _ => rfl)) $$ Hw
  iintro Hw
  iapply (wp_overwrite 𝒱₀ (c : Thread nD τ) none (fun _ => rfl)) $$ Ho0
  iintro Ho0
  iapply (step_out c castW' (by decide)) $$ [Ho0 Hy0 Hz0]
  · isplitl [Ho0]; · iexact Ho0
    isplitl [Hy0]; · iexact Hy0
    iexact Hz0
  iintro Hf0
  iapply (wp_load_window 𝒱₀ (c : Thread nD τ) none (fun _ => rfl)) $$ Hb
  iintro Hb
  iapply (wp_load_window 𝒱₀ (c : Thread nD τ) none (fun _ => rfl)) $$ Hw
  iintro Hw
  iapply (wp_overwrite 𝒱₀ (c : Thread nD τ) none (fun _ => rfl)) $$ Ho1
  iintro Ho1
  iapply Hk
  isplitl [Ha]; · iexact Ha
  isplitl [Hb]; · iexact Hb
  isplitl [Hw]; · iexact Hw
  isplitl [Hf0]; · iexact Hf0
  iexact Ho1

/-- The second product is on its way out; the first half from the left has come and is passed on. -/
theorem part11 (v4 v6 : BitVec 32) {k : PUnit → Prog (TpuEff nD τ sig (Elt F) Λ₀ .tc) α} :
    iprop(env m K ∗ due c [4, 5, 6, 7] ∗ owns (c : Thread nD τ) (win oV (oSlot 1)) fullShare (k0_pay15 s (cut (X8 m c) (h512 512)) (cut (W8 m c) wAll)) ∗ anyAt (c : Thread nD τ) (yw1 c) ∗ copyZero c 1
        ∗ waitR c 0 ∗ anyAt (nxt c : Thread nD τ) (win rD (q256 0)) ∗ anyAt (nxt c : Thread nD τ) (win rD (q256 256)) ∗ tok c 4 ∗ tok c 5)
      ⊢ iprop(((due c [6, 7] ∗ oFly c 1 1 (yw1 c) (V5 m c s c 512) ∗ recvZero c 0 ∗ rLHalf m c 0 qK ∗ sent c 4 ∗ sent c 5)
          -∗ go c (k ⟨⟩) Q)
        -∗ go c (onArgs (k0_part11 (F := F)) c v4 v6 >>= k) Q) := by
  rw [k0_part11_eq_skeleton]; unfold onArgs k0_part11_skel
  simp only [Prog.lift, Prog.bind_op, Prog.bind_ret, Prog.pure_eq_ret]
  iintro ⟨#He, HO, Ho1, Hy1, Hz1, ⟨Hc, Hat⟩, Hd0, Hd1, ⟨Hts4, Htr4⟩, ⟨Hts5, Htr5⟩⟩ Hk
  iapply (step_out c castW' (by decide)) $$ [Ho1 Hy1 Hz1]
  · isplitl [Ho1]; · iexact Ho1
    isplitl [Hy1]; · iexact Hy1
    iexact Hz1
  iintro Hf1
  iapply (step_wait m K c [4, 5, 6, 7] (true, 0) rfl (by decide) (dstw := win rL (h512 0)) rfl) $$ [Hc HO Hat]
  · isplitr; · iexact He
    isplitl [Hc]; · iexact Hc
    isplitl [HO]; · iexact HO
    iexact Hat
  iintro ⟨Hr, HO, Hrz⟩
  ihave Hr := (rL_pass m c) $$ Hr
  icases Hr with ⟨Hr, Hq0, Hq1⟩
  iapply (step_send m K c [5, 6, 7] 4 (dev7_at c) (src := win rL (q256 0)) (dst := win rD (q256 0)) (q := qS)
    (X := cut (X8 m (prv c)) (q256 0)) rfl .rfl (Entails.of_eq (recv_eq m c 4).symm)) $$ [Hq0 Hd0 HO Hts4 Htr4]
  · isplitr; · iexact He
    isplitl [Hq0]; · iexact Hq0
    isplitl [Hd0]; · iexact Hd0
    isplitl [HO]; · iexact HO
    isplitl [Hts4]; · iexact Hts4
    iexact Htr4
  iintro ⟨Hc4, HO⟩
  iapply (step_send m K c [6, 7] 5 (dev8_at c) (src := win rL (q256 256)) (dst := win rD (q256 256)) (q := qS)
    (X := cut (X8 m (prv c)) (q256 256)) rfl .rfl (Entails.of_eq (recv_eq m c 5).symm)) $$ [Hq1 Hd1 HO Hts5 Htr5]
  · isplitr; · iexact He
    isplitl [Hq1]; · iexact Hq1
    isplitl [Hd1]; · iexact Hd1
    isplitl [HO]; · iexact HO
    isplitl [Hts5]; · iexact Hts5
    iexact Htr5
  iintro ⟨Hc5, HO⟩
  iapply Hk
  isplitl [HO]; · iexact HO
  isplitl [Hf1]; · iexact Hf1
  isplitl [Hrz]; · iexact Hrz
  isplitl [Hr]; · iexact Hr
  isplitl [Hc4]; · iexact Hc4
  iexact Hc5

/-- The product of the first half from the left is on its way out; the second half from the right has come. -/
theorem part12 (v4 : BitVec 32) {k : PUnit → Prog (TpuEff nD τ sig (Elt F) Λ₀ .tc) α} :
    iprop(env m K ∗ due c [6, 7] ∗ rLHalf m c 0 qK ∗ w8All m c ∗ oFree (F := F) c 2 ∗ anyAt (c : Thread nD τ) (yw2 c) ∗ copyZero c 2 ∗ waitR c 3)
      ⊢ iprop(((due c [6, 7] ∗ rLHalf m c 0 qK ∗ w8All m c ∗ oFly c 2 2 (yw2 c) (V5 m c s (prv c) 0) ∗ recvZero c 3 ∗ rRHalf m c 512 fullShare)
          -∗ go c (k ⟨⟩) Q)
        -∗ go c (onArgs (k0_part12 (F := F)) c v4 s >>= k) Q) := by
  rw [k0_part12_eq_skeleton]; unfold onArgs k0_part12_skel
  simp only [Prog.lift, Prog.bind_op, Prog.bind_ret, Prog.pure_eq_ret]
  iintro ⟨#He, HO, Ha, Hw, Ho, Hy, Hz, ⟨Hc, Hat⟩⟩ Hk
  iapply (wp_load_window 𝒱₀ (c : Thread nD τ) none (fun _ => rfl)) $$ Ha
  iintro Ha
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castW' (by decide)) $$ [Ho Hy Hz]
  · isplitl [Ho]; · iexact Ho
    isplitl [Hy]; · iexact Hy
    iexact Hz
  iintro Hf
  iapply (step_wait m K c [6, 7] (true, 3) rfl (by decide) (dstw := win rR (h512 512)) rfl) $$ [Hc HO Hat]
  · isplitr; · iexact He
    isplitl [Hc]; · iexact Hc
    isplitl [HO]; · iexact HO
    iexact Hat
  iintro ⟨Hr, HO, Hrz⟩
  ihave Hr := (show pay m c (some (true, 3)) false ⊢ rRHalf m c 512 fullShare from .rfl) $$ Hr
  iapply Hk
  isplitl [HO]; · iexact HO
  isplitl [Ha]; · iexact Ha
  isplitl [Hw]; · iexact Hw
  isplitl [Hf]; · iexact Hf
  isplitl [Hrz]; · iexact Hrz
  iexact Hr

/-- The second half from the right is passed on; its product is on its way out. -/
theorem part13 (v4 v6 : BitVec 32) {k : PUnit → Prog (TpuEff nD τ sig (Elt F) Λ₀ .tc) α} :
    iprop(env m K ∗ due c [6, 7] ∗ rRHalf m c 512 fullShare ∗ w8All m c ∗ oFree (F := F) c 3 ∗ anyAt (c : Thread nD τ) (yw3 c) ∗ copyZero c 3
        ∗ anyAt (prv c : Thread nD τ) (win rD (q256 512)) ∗ anyAt (prv c : Thread nD τ) (win rD (q256 768)) ∗ tok c 6 ∗ tok c 7)
      ⊢ iprop(((due c [] ∗ rRHalf m c 512 qK ∗ w8All m c ∗ oFly c 3 3 (yw3 c) (V5 m c s (nxt c) 512) ∗ sent c 6 ∗ sent c 7)
          -∗ go c (k ⟨⟩) Q)
        -∗ go c (onArgs (k0_part13 (F := F)) c v4 v6 s >>= k) Q) := by
  rw [k0_part13_eq_skeleton]; unfold onArgs k0_part13_skel
  simp only [Prog.lift, Prog.bind_op, Prog.bind_ret, Prog.pure_eq_ret]
  iintro ⟨#He, HO, Hr, Hw, Ho, Hy, Hz, Hd0, Hd1, ⟨Hts6, Htr6⟩, ⟨Hts7, Htr7⟩⟩ Hk
  ihave Hr := (rR_pass m c) $$ Hr
  icases Hr with ⟨Hr, Hq0, Hq1⟩
  iapply (step_send m K c [7] 6 (dev9_at c) (src := win rR (q256 512)) (dst := win rD (q256 512)) (q := qS)
    (X := cut (X8 m (nxt c)) (q256 512)) rfl .rfl (Entails.of_eq (recv_eq m c 6).symm)) $$ [Hq0 Hd0 HO Hts6 Htr6]
  · isplitr; · iexact He
    isplitl [Hq0]; · iexact Hq0
    isplitl [Hd0]; · iexact Hd0
    isplitl [HO]; · iexact HO
    isplitl [Hts6]; · iexact Hts6
    iexact Htr6
  iintro ⟨Hc6, HO⟩
  iapply (step_send m K c [] 7 (dev10_at c) (src := win rR (q256 768)) (dst := win rD (q256 768)) (q := qS)
    (X := cut (X8 m (nxt c)) (q256 768)) rfl .rfl (Entails.of_eq (recv_eq m c 7).symm)) $$ [Hq1 Hd1 HO Hts7 Htr7]
  · isplitr; · iexact He
    isplitl [Hq1]; · iexact Hq1
    isplitl [Hd1]; · iexact Hd1
    isplitl [HO]; · iexact HO
    isplitl [Hts7]; · iexact Hts7
    iexact Htr7
  iintro ⟨Hc7, HO⟩
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castW' (by decide)) $$ [Ho Hy Hz]
  · isplitl [Ho]; · iexact Ho
    isplitl [Hy]; · iexact Hy
    iexact Hz
  iintro Hf
  iapply Hk
  isplitl [HO]; · iexact HO
  isplitl [Hr]; · iexact Hr
  isplitl [Hw]; · iexact Hw
  isplitl [Hf]; · iexact Hf
  isplitl [Hc6]; · iexact Hc6
  iexact Hc7

end Cert.KProof

end
-- ==== Proof.Parts4.lean ====
/-
# 01_k — `Parts4`: the other products, and the waits for every copy
-/
module

public import proofs.«01_k».proof.Proof.Parts3

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ) (c : Dev nD)
variable {α : Type} {Q : α → sProp (MT nD τ sig Unit (Elt F) ℕ UU ℕ)}

/-- A result slot free is its two halves free. -/
theorem o_split2 : oFree (F := F) c 2 ⊢ iprop(oFreeH (F := F) c 2 0 ∗ oFreeH (F := F) c 2 256) :=
  anyAt_split (c : Thread nD τ) oV _ _ _ (fun _ => rfl) (fun _ => rfl) (fun _ => rfl)
    (slot_disjoint (P := 4) (R := 512) (C := 2048) (p := 1) (n := 256) (n' := 256)) (slot_union (P := 4) (R := 512) (C := 2048) (p := 1) (n := 256) (n' := 256))
theorem o_split3 : oFree (F := F) c 3 ⊢ iprop(oFreeH (F := F) c 3 0 ∗ oFreeH (F := F) c 3 256) :=
  anyAt_split (c : Thread nD τ) oV _ _ _ (fun _ => rfl) (fun _ => rfl) (fun _ => rfl)
    (slot_disjoint (P := 4) (R := 512) (C := 2048) (p := 1) (n := 256) (n' := 256)) (slot_union (P := 4) (R := 512) (C := 2048) (p := 1) (n := 256) (n' := 256))

variable (s : F .f32)

/-- The second half from the left has come; its product is on its way out of the slot the first product has left. -/
theorem part14 (v4 : BitVec 32) {k : PUnit → Prog (TpuEff nD τ sig (Elt F) Λ₀ .tc) α} :
    iprop(env m K ∗ due c [] ∗ waitR c 1 ∗ oFly c 0 0 (yw0 c) (V5 m c s c 0) ∗ w8All m c ∗ anyAt (c : Thread nD τ) (yw4 c) ∗ copyZero c 4)
      ⊢ iprop(((due c [] ∗ recvZero c 1 ∗ rLHalf m c 512 fullShare ∗ owns (c : Thread nD τ) (yw0 c) fullShare (V5 m c s c 0) ∗ copyZero c 0 ∗ w8All m c ∗ oFly c 4 0 (yw4 c) (V5 m c s (prv c) 512))
          -∗ go c (k ⟨⟩) Q)
        -∗ go c (onArgs (k0_part14 (F := F)) c v4 s >>= k) Q) := by
  rw [k0_part14_eq_skeleton]; unfold onArgs k0_part14_skel
  simp only [Prog.lift, Prog.bind_op, Prog.bind_ret, Prog.pure_eq_ret]
  iintro ⟨#He, HO, ⟨Hc, Hat⟩, Hf, Hw, Hy, Hz⟩ Hk
  iapply (step_wait m K c [] (true, 1) rfl (by decide) (dstw := win rL (h512 512)) rfl) $$ [Hc HO Hat]
  · isplitr; · iexact He
    isplitl [Hc]; · iexact Hc
    isplitl [HO]; · iexact HO
    iexact Hat
  iintro ⟨Hr, HO, Hrz⟩
  ihave Hr := (show pay m c (some (true, 1)) false ⊢ rLHalf m c 512 fullShare from .rfl) $$ Hr
  iapply (step_out_wait m K c [] castW rfl) $$ [Hf HO]
  · isplitl [Hf]; · iexact Hf
    isplitl [HO]; · iexact HO
    iexact He
  iintro ⟨Hd, Ho, Hz0, HO⟩
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castW' (by decide)) $$ [Ho Hy Hz]
  · isplitl [Ho]; · iexact Ho
    isplitl [Hy]; · iexact Hy
    iexact Hz
  iintro Hf
  iapply Hk
  isplitl [HO]; · iexact HO
  isplitl [Hrz]; · iexact Hrz
  isplitl [Hr]; · iexact Hr
  isplitl [Hd]; · iexact Hd
  isplitl [Hz0]; · iexact Hz0
  isplitl [Hw]; · iexact Hw
  iexact Hf

/-- The same of the first half from the right and the second slot. -/
theorem part15 (v6 : BitVec 32) {k : PUnit → Prog (TpuEff nD τ sig (Elt F) Λ₀ .tc) α} :
    iprop(env m K ∗ due c [] ∗ waitR c 2 ∗ oFly c 1 1 (yw1 c) (V5 m c s c 512) ∗ w8All m c ∗ anyAt (c : Thread nD τ) (yw5 c) ∗ copyZero c 5)
      ⊢ iprop(((due c [] ∗ recvZero c 2 ∗ rRHalf m c 0 fullShare ∗ owns (c : Thread nD τ) (yw1 c) fullShare (V5 m c s c 512) ∗ copyZero c 1 ∗ w8All m c ∗ oFly c 5 1 (yw5 c) (V5 m c s (nxt c) 0))
          -∗ go c (k ⟨⟩) Q)
        -∗ go c (onArgs (k0_part15 (F := F)) c v6 s >>= k) Q) := by
  rw [k0_part15_eq_skeleton]; unfold onArgs k0_part15_skel
  simp only [Prog.lift, Prog.bind_op, Prog.bind_ret, Prog.pure_eq_ret]
  iintro ⟨#He, HO, ⟨Hc, Hat⟩, Hf, Hw, Hy, Hz⟩ Hk
  iapply (step_wait m K c [] (true, 2) rfl (by decide) (dstw := win rR (h512 0)) rfl) $$ [Hc HO Hat]
  · isplitr; · iexact He
    isplitl [Hc]; · iexact Hc
    isplitl [HO]; · iexact HO
    iexact Hat
  iintro ⟨Hr, HO, Hrz⟩
  ihave Hr := (show pay m c (some (true, 2)) false ⊢ rRHalf m c 0 fullShare from .rfl) $$ Hr
  iapply (step_out_wait m K c [] castW rfl) $$ [Hf HO]
  · isplitl [Hf]; · iexact Hf
    isplitl [HO]; · iexact HO
    iexact He
  iintro ⟨Hd, Ho, Hz0, HO⟩
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castW' (by decide)) $$ [Ho Hy Hz]
  · isplitl [Ho]; · iexact Ho
    isplitl [Hy]; · iexact Hy
    iexact Hz
  iintro Hf
  iapply Hk
  isplitl [HO]; · iexact HO
  isplitl [Hrz]; · iexact Hrz
  isplitl [Hr]; · iexact Hr
  isplitl [Hd]; · iexact Hd
  isplitl [Hz0]; · iexact Hz0
  isplitl [Hw]; · iexact Hw
  iexact Hf

/-- The first quarter of the block across the ring has come; its product is on its way out. -/
theorem part16 (v4 v8 : BitVec 32) {k : PUnit → Prog (TpuEff nD τ sig (Elt F) Λ₀ .tc) α} :
    iprop(env m K ∗ due c [] ∗ waitR c 4 ∗ oFly c 2 2 (yw2 c) (V5 m c s (prv c) 0) ∗ w8All m c ∗ anyAt (c : Thread nD τ) (yw6 c) ∗ copyZero c 6)
      ⊢ iprop(((due c [] ∗ recvZero c 4 ∗ rDRows m c 0 ∗ owns (c : Thread nD τ) (yw2 c) fullShare (V5 m c s (prv c) 0) ∗ copyZero c 2 ∗ w8All m c ∗ oFlyH c 6 2 0 (yw6 c) (V2 m c s (opp c) 0) ∗ oFreeH (F := F) c 2 256)
          -∗ go c (k ⟨⟩) Q)
        -∗ go c (onArgs (k0_part16 (F := F)) c v4 v8 s >>= k) Q) := by
  rw [k0_part16_eq_skeleton]; unfold onArgs k0_part16_skel
  simp only [Prog.lift, Prog.bind_op, Prog.bind_ret, Prog.pure_eq_ret]
  iintro ⟨#He, HO, ⟨Hc, Hat⟩, Hf, Hw, Hy, Hz⟩ Hk
  iapply (step_wait m K c [] (true, 4) rfl (by decide) (dstw := win rD (q256 0)) rfl) $$ [Hc HO Hat]
  · isplitr; · iexact He
    isplitl [Hc]; · iexact Hc
    isplitl [HO]; · iexact HO
    iexact Hat
  iintro ⟨Hr, HO, Hrz⟩
  ihave Hr := (show pay m c (some (true, 4)) false ⊢ rDRows m c 0 from .rfl) $$ Hr
  iapply (step_out_wait m K c [] castW rfl) $$ [Hf HO]
  · isplitl [Hf]; · iexact Hf
    isplitl [HO]; · iexact HO
    iexact He
  iintro ⟨Hd, Ho, Hz0, HO⟩
  ihave Ho := (o_split2 c) $$ Ho
  icases Ho with ⟨Ho, Ho'⟩
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castO' (by decide)) $$ [Ho Hy Hz]
  · isplitl [Ho]; · iexact Ho
    isplitl [Hy]; · iexact Hy
    iexact Hz
  iintro Hf
  iapply Hk
  isplitl [HO]; · iexact HO
  isplitl [Hrz]; · iexact Hrz
  isplitl [Hr]; · iexact Hr
  isplitl [Hd]; · iexact Hd
  isplitl [Hz0]; · iexact Hz0
  isplitl [Hw]; · iexact Hw
  isplitl [Hf]; · iexact Hf
  iexact Ho'

/-- The same of the third quarter. -/
theorem part17 (v6 v8 : BitVec 32) {k : PUnit → Prog (TpuEff nD τ sig (Elt F) Λ₀ .tc) α} :
    iprop(env m K ∗ due c [] ∗ waitR c 6 ∗ oFly c 3 3 (yw3 c) (V5 m c s (nxt c) 512) ∗ w8All m c ∗ anyAt (c : Thread nD τ) (yw7 c) ∗ copyZero c 7)
      ⊢ iprop(((due c [] ∗ recvZero c 6 ∗ rDRows m c 512 ∗ owns (c : Thread nD τ) (yw3 c) fullShare (V5 m c s (nxt c) 512) ∗ copyZero c 3 ∗ w8All m c ∗ oFlyH c 7 3 0 (yw7 c) (V2 m c s (opp c) 512) ∗ oFreeH (F := F) c 3 256)
          -∗ go c (k ⟨⟩) Q)
        -∗ go c (onArgs (k0_part17 (F := F)) c v6 v8 s >>= k) Q) := by
  rw [k0_part17_eq_skeleton]; unfold onArgs k0_part17_skel
  simp only [Prog.lift, Prog.bind_op, Prog.bind_ret, Prog.pure_eq_ret]
  iintro ⟨#He, HO, ⟨Hc, Hat⟩, Hf, Hw, Hy, Hz⟩ Hk
  iapply (step_wait m K c [] (true, 6) rfl (by decide) (dstw := win rD (q256 512)) rfl) $$ [Hc HO Hat]
  · isplitr; · iexact He
    isplitl [Hc]; · iexact Hc
    isplitl [HO]; · iexact HO
    iexact Hat
  iintro ⟨Hr, HO, Hrz⟩
  ihave Hr := (show pay m c (some (true, 6)) false ⊢ rDRows m c 512 from .rfl) $$ Hr
  iapply (step_out_wait m K c [] castW rfl) $$ [Hf HO]
  · isplitl [Hf]; · iexact Hf
    isplitl [HO]; · iexact HO
    iexact He
  iintro ⟨Hd, Ho, Hz0, HO⟩
  ihave Ho := (o_split3 c) $$ Ho
  icases Ho with ⟨Ho, Ho'⟩
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castO' (by decide)) $$ [Ho Hy Hz]
  · isplitl [Ho]; · iexact Ho
    isplitl [Hy]; · iexact Hy
    iexact Hz
  iintro Hf
  iapply Hk
  isplitl [HO]; · iexact HO
  isplitl [Hrz]; · iexact Hrz
  isplitl [Hr]; · iexact Hr
  isplitl [Hd]; · iexact Hd
  isplitl [Hz0]; · iexact Hz0
  isplitl [Hw]; · iexact Hw
  isplitl [Hf]; · iexact Hf
  iexact Ho'

/-- The second quarter's product is on its way out; the last quarter has come. -/
theorem part18 (v4 v8 : BitVec 32) {k : PUnit → Prog (TpuEff nD τ sig (Elt F) Λ₀ .tc) α} :
    iprop(env m K ∗ due c [] ∗ waitR c 5 ∗ w8All m c ∗ oFreeH (F := F) c 2 256 ∗ anyAt (c : Thread nD τ) (yw8 c) ∗ copyZero c 8 ∗ waitR c 7)
      ⊢ iprop(((due c [] ∗ recvZero c 5 ∗ rDRows m c 256 ∗ w8All m c ∗ oFlyH c 8 2 256 (yw8 c) (V2 m c s (opp c) 256) ∗ recvZero c 7 ∗ rDRows m c 768)
          -∗ go c (k ⟨⟩) Q)
        -∗ go c (onArgs (k0_part18 (F := F)) c v4 v8 s >>= k) Q) := by
  rw [k0_part18_eq_skeleton]; unfold onArgs k0_part18_skel
  simp only [Prog.lift, Prog.bind_op, Prog.bind_ret, Prog.pure_eq_ret]
  iintro ⟨#He, HO, ⟨Hc, Hat⟩, Hw, Ho, Hy, Hz, ⟨Hc', Hat'⟩⟩ Hk
  iapply (step_wait m K c [] (true, 5) rfl (by decide) (dstw := win rD (q256 256)) rfl) $$ [Hc HO Hat]
  · isplitr; · iexact He
    isplitl [Hc]; · iexact Hc
    isplitl [HO]; · iexact HO
    iexact Hat
  iintro ⟨Hr, HO, Hrz⟩
  ihave Hr := (show pay m c (some (true, 5)) false ⊢ rDRows m c 256 from .rfl) $$ Hr
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castO' (by decide)) $$ [Ho Hy Hz]
  · isplitl [Ho]; · iexact Ho
    isplitl [Hy]; · iexact Hy
    iexact Hz
  iintro Hf
  iapply (step_wait m K c [] (true, 7) rfl (by decide) (dstw := win rD (q256 768)) rfl) $$ [Hc' HO Hat']
  · isplitr; · iexact He
    isplitl [Hc']; · iexact Hc'
    isplitl [HO]; · iexact HO
    iexact Hat'
  iintro ⟨Hr', HO, Hrz'⟩
  ihave Hr' := (show pay m c (some (true, 7)) false ⊢ rDRows m c 768 from .rfl) $$ Hr'
  iapply Hk
  isplitl [HO]; · iexact HO
  isplitl [Hrz]; · iexact Hrz
  isplitl [Hr]; · iexact Hr
  isplitl [Hw]; · iexact Hw
  isplitl [Hf]; · iexact Hf
  isplitl [Hrz']; · iexact Hrz'
  iexact Hr'

/-- The last product is on its way out; the fifth and sixth have arrived. -/
theorem part19 (v8 : BitVec 32) {k : PUnit → Prog (TpuEff nD τ sig (Elt F) Λ₀ .tc) α} :
    iprop(env m K ∗ due c [] ∗ rDRows m c 768 ∗ w8All m c ∗ oFreeH (F := F) c 3 256 ∗ anyAt (c : Thread nD τ) (yw9 c) ∗ copyZero c 9 ∗ oFly c 4 0 (yw4 c) (V5 m c s (prv c) 512)
        ∗ oFly c 5 1 (yw5 c) (V5 m c s (nxt c) 0))
      ⊢ iprop(((due c [] ∗ rDRows m c 768 ∗ w8All m c ∗ oFlyH c 9 3 256 (yw9 c) (V2 m c s (opp c) 768) ∗ owns (c : Thread nD τ) (yw4 c) fullShare (V5 m c s (prv c) 512) ∗ oFree (F := F) c 0 ∗ copyZero c 4
          ∗ owns (c : Thread nD τ) (yw5 c) fullShare (V5 m c s (nxt c) 0) ∗ oFree (F := F) c 1 ∗ copyZero c 5)
          -∗ go c (k ⟨⟩) Q)
        -∗ go c (onArgs (k0_part19 (F := F)) c v8 s >>= k) Q) := by
  rw [k0_part19_eq_skeleton]; unfold onArgs k0_part19_skel
  simp only [Prog.lift, Prog.bind_op, Prog.bind_ret, Prog.pure_eq_ret]
  iintro ⟨#He, HO, Hr, Hw, Ho, Hy, Hz, Hf4, Hf5⟩ Hk
  iapply (wp_load_window 𝒱₀ (c : Thread nD τ) none (fun _ => rfl)) $$ Hr
  iintro Hr
  iapply (wp_load_window 𝒱₀ (c : Thread nD τ) none (fun _ => rfl)) $$ Hw
  iintro Hw
  iapply (wp_overwrite 𝒱₀ (c : Thread nD τ) none (fun _ => rfl)) $$ Ho
  iintro Ho
  iapply (step_out c castO' (by decide)) $$ [Ho Hy Hz]
  · isplitl [Ho]; · iexact Ho
    isplitl [Hy]; · iexact Hy
    iexact Hz
  iintro Hf
  iapply (step_out_wait m K c [] castW rfl) $$ [Hf4 HO]
  · isplitl [Hf4]; · iexact Hf4
    isplitl [HO]; · iexact HO
    iexact He
  iintro ⟨Hd4, Ho4, Hz4, HO⟩
  iapply (step_out_wait m K c [] castW rfl) $$ [Hf5 HO]
  · isplitl [Hf5]; · iexact Hf5
    isplitl [HO]; · iexact HO
    iexact He
  iintro ⟨Hd5, Ho5, Hz5, HO⟩
  iapply Hk
  isplitl [HO]; · iexact HO
  isplitl [Hr]; · iexact Hr
  isplitl [Hw]; · iexact Hw
  isplitl [Hf]; · iexact Hf
  isplitl [Hd4]; · iexact Hd4
  isplitl [Ho4]; · iexact Ho4
  isplitl [Hz4]; · iexact Hz4
  isplitl [Hd5]; · iexact Hd5
  isplitl [Ho5]; · iexact Ho5
  iexact Hz5

/-- The last four products have arrived; the first copy of the device's own has left. -/
theorem part20 {k : PUnit → Prog (TpuEff nD τ sig (Elt F) Λ₀ .tc) α} :
    iprop(env m K ∗ due c []
        ∗ oFlyH c 6 2 0 (yw6 c) (V2 m c s (opp c) 0)
        ∗ oFlyH c 7 3 0 (yw7 c) (V2 m c s (opp c) 512)
        ∗ oFlyH c 8 2 256 (yw8 c) (V2 m c s (opp c) 256)
        ∗ oFlyH c 9 3 256 (yw9 c) (V2 m c s (opp c) 768)
        ∗ waitS c 0)
      ⊢ iprop(((due c []
          ∗ owns (c : Thread nD τ) (yw6 c) fullShare (V2 m c s (opp c) 0) ∗ oFreeH (F := F) c 2 0 ∗ copyZero c 6
          ∗ owns (c : Thread nD τ) (yw7 c) fullShare (V2 m c s (opp c) 512) ∗ oFreeH (F := F) c 3 0 ∗ copyZero c 7
          ∗ owns (c : Thread nD τ) (yw8 c) fullShare (V2 m c s (opp c) 256) ∗ oFreeH (F := F) c 2 256 ∗ copyZero c 8
          ∗ owns (c : Thread nD τ) (yw9 c) fullShare (V2 m c s (opp c) 768) ∗ oFreeH (F := F) c 3 256 ∗ copyZero c 9
          ∗ sendPay m c 0 ∗ sendZero c 0)
          -∗ go c (k ⟨⟩) Q)
        -∗ go c (onArgs (k0_part20 (F := F)) c >>= k) Q) := by
  rw [k0_part20_eq_skeleton]; unfold onArgs k0_part20_skel
  simp only [Prog.lift, Prog.bind_op, Prog.bind_ret, Prog.pure_eq_ret]
  iintro ⟨#He, HO, Hf6, Hf7, Hf8, Hf9, ⟨Hc, Hat⟩⟩ Hk
  iapply (step_out_wait m K c [] castO rfl) $$ [Hf6 HO]
  · isplitl [Hf6]; · iexact Hf6
    isplitl [HO]; · iexact HO
    iexact He
  iintro ⟨Hd6, Ho6, Hz6, HO⟩
  iapply (step_out_wait m K c [] castO rfl) $$ [Hf7 HO]
  · isplitl [Hf7]; · iexact Hf7
    isplitl [HO]; · iexact HO
    iexact He
  iintro ⟨Hd7, Ho7, Hz7, HO⟩
  iapply (step_out_wait m K c [] castO rfl) $$ [Hf8 HO]
  · isplitl [Hf8]; · iexact Hf8
    isplitl [HO]; · iexact HO
    iexact He
  iintro ⟨Hd8, Ho8, Hz8, HO⟩
  iapply (step_out_wait m K c [] castO rfl) $$ [Hf9 HO]
  · isplitl [Hf9]; · iexact Hf9
    isplitl [HO]; · iexact HO
    iexact He
  iintro ⟨Hd9, Ho9, Hz9, HO⟩
  iapply (step_wait m K c [] (false, 0) rfl (by decide) (dstw := win x8 (h512 0)) rfl) $$ [Hc HO Hat]
  · isplitr; · iexact He
    isplitl [Hc]; · iexact Hc
    isplitl [HO]; · iexact HO
    iexact Hat
  iintro ⟨Hp, HO, Hpz⟩
  ihave Hp := (show pay m c (some (false, 0)) false ⊢ sendPay m c 0 from .rfl) $$ Hp
  iapply Hk
  isplitl [HO]; · iexact HO
  isplitl [Hd6]; · iexact Hd6
  isplitl [Ho6]; · iexact Ho6
  isplitl [Hz6]; · iexact Hz6
  isplitl [Hd7]; · iexact Hd7
  isplitl [Ho7]; · iexact Ho7
  isplitl [Hz7]; · iexact Hz7
  isplitl [Hd8]; · iexact Hd8
  isplitl [Ho8]; · iexact Ho8
  isplitl [Hz8]; · iexact Hz8
  isplitl [Hd9]; · iexact Hd9
  isplitl [Ho9]; · iexact Ho9
  isplitl [Hz9]; · iexact Hz9
  isplitl [Hp]; · iexact Hp
  iexact Hpz

/-- Five more copies have left. -/
theorem part21 {k : PUnit → Prog (TpuEff nD τ sig (Elt F) Λ₀ .tc) α} :
    iprop(env m K ∗ due c []
        ∗ waitS c 1 ∗ waitS c 2 ∗ waitS c 3 ∗ waitS c 4 ∗ waitS c 5)
      ⊢ iprop(((due c []
          ∗ sendPay m c 1 ∗ sendZero c 1
          ∗ sendPay m c 2 ∗ sendZero c 2
          ∗ sendPay m c 3 ∗ sendZero c 3
          ∗ sendPay m c 4 ∗ sendZero c 4
          ∗ sendPay m c 5 ∗ sendZero c 5)
          -∗ go c (k ⟨⟩) Q)
        -∗ go c (onArgs (k0_part21 (F := F)) >>= k) Q) := by
  rw [k0_part21_eq_skeleton]; unfold onArgs k0_part21_skel
  simp only [Prog.lift, Prog.bind_op, Prog.bind_ret, Prog.pure_eq_ret]
  iintro ⟨#He, HO, ⟨Hc1, Hat1⟩, ⟨Hc2, Hat2⟩, ⟨Hc3, Hat3⟩, ⟨Hc4, Hat4⟩, ⟨Hc5, Hat5⟩⟩ Hk
  iapply (step_wait m K c [] (false, 1) rfl (by decide) (dstw := win x8 (h512 512)) rfl) $$ [Hc1 HO Hat1]
  · isplitr; · iexact He
    isplitl [Hc1]; · iexact Hc1
    isplitl [HO]; · iexact HO
    iexact Hat1
  iintro ⟨Hp1, HO, Hz1⟩
  ihave Hp1 := (show pay m c (some (false, 1)) false ⊢ sendPay m c 1 from .rfl) $$ Hp1
  iapply (step_wait m K c [] (false, 2) rfl (by decide) (dstw := win x8 (h512 0)) rfl) $$ [Hc2 HO Hat2]
  · isplitr; · iexact He
    isplitl [Hc2]; · iexact Hc2
    isplitl [HO]; · iexact HO
    iexact Hat2
  iintro ⟨Hp2, HO, Hz2⟩
  ihave Hp2 := (show pay m c (some (false, 2)) false ⊢ sendPay m c 2 from .rfl) $$ Hp2
  iapply (step_wait m K c [] (false, 3) rfl (by decide) (dstw := win x8 (h512 512)) rfl) $$ [Hc3 HO Hat3]
  · isplitr; · iexact He
    isplitl [Hc3]; · iexact Hc3
    isplitl [HO]; · iexact HO
    iexact Hat3
  iintro ⟨Hp3, HO, Hz3⟩
  ihave Hp3 := (show pay m c (some (false, 3)) false ⊢ sendPay m c 3 from .rfl) $$ Hp3
  iapply (step_wait m K c [] (false, 4) rfl (by decide) (dstw := win rL (q256 0)) rfl) $$ [Hc4 HO Hat4]
  · isplitr; · iexact He
    isplitl [Hc4]; · iexact Hc4
    isplitl [HO]; · iexact HO
    iexact Hat4
  iintro ⟨Hp4, HO, Hz4⟩
  ihave Hp4 := (show pay m c (some (false, 4)) false ⊢ sendPay m c 4 from .rfl) $$ Hp4
  iapply (step_wait m K c [] (false, 5) rfl (by decide) (dstw := win rL (q256 256)) rfl) $$ [Hc5 HO Hat5]
  · isplitr; · iexact He
    isplitl [Hc5]; · iexact Hc5
    isplitl [HO]; · iexact HO
    iexact Hat5
  iintro ⟨Hp5, HO, Hz5⟩
  ihave Hp5 := (show pay m c (some (false, 5)) false ⊢ sendPay m c 5 from .rfl) $$ Hp5
  iapply Hk
  isplitl [HO]; · iexact HO
  isplitl [Hp1]; · iexact Hp1
  isplitl [Hz1]; · iexact Hz1
  isplitl [Hp2]; · iexact Hp2
  isplitl [Hz2]; · iexact Hz2
  isplitl [Hp3]; · iexact Hp3
  isplitl [Hz3]; · iexact Hz3
  isplitl [Hp4]; · iexact Hp4
  isplitl [Hz4]; · iexact Hz4
  isplitl [Hp5]; · iexact Hp5
  iexact Hz5

end Cert.KProof

end
-- ==== Proof.Cuts.lean ====
/-
# 01_k — `Cuts`: the buffers cut for the kernel, and put together after it

A whole buffer is the windows of a family of rectangles that do not meet and cover it.  Here are the families the kernel
uses: the quarters and halves of a row block, the tiles of a column block, the slots of the double buffers, the ten
windows of the result.
-/
module

public import proofs.«01_k».proof.Proof.Parts4

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Families of rectangles -/

section Family

variable (c : Dev nD) (b : Ref sig .tc) {n : ℕ} (r : Fin n → Rect b.ty.shape) (hr : ∀ t, ∀ a, (r t).stride a = 1)
variable (hd : ∀ t t', t ≠ t' → Disjoint (r t).set (r t').set) (hcov : (Finset.univ : Finset (Fin n)).biUnion (fun t => (r t).set) = Finset.univ)

include hd hcov in
/-- A whole buffer at an array is each window at its part of the array. -/
theorem whole_tiles (G : b.ty.Contents (Elt F)) : (((c : Thread nD τ).loc b) ↦{fullShare} G : sProp 𝕄)
    = bigSep Finset.univ fun t => owns (c : Thread nD τ) (win (Memref.whole b) (r t) (hr t)) fullShare (cut G (r t)) := by
  have h := pointsTo_rects (Ix := Unit) (Name := ℕ) (U := UU) (Lvl := ℕ) (c : Thread nD τ) (Memref.whole b) fullShare r hr hd hcov G
  simp only [Memref.view_whole, View.set_whole] at h
  exact h

include hd in
/-- Windows that do not meet may be given any contents at once by one array. -/
theorem tiles_agree (V : (t : Fin n) → (r t).shape.Idx → Elt F b.ty.elt) (G₀ : b.ty.Contents (Elt F)) :
    ∃ G : b.ty.Contents (Elt F), ∀ t, cut G (r t) = V t := by
  classical
  refine ⟨fun i => if h : ∃ p : (t : Fin n) × (r t).shape.Idx, (r p.1).emb p.2 = i then V h.choose.1 h.choose.2 else G₀ i, fun t => funext fun j => ?_⟩
  have h : ∃ p : (t : Fin n) × (r t).shape.Idx, (r p.1).emb p.2 = (r t).emb j := ⟨⟨t, j⟩, rfl⟩
  show (if h : ∃ p : (t : Fin n) × (r t).shape.Idx, (r p.1).emb p.2 = (r t).emb j then V h.choose.1 h.choose.2 else G₀ _) = V t j
  rw [dif_pos h]
  have hs := h.choose_spec
  generalize h.choose = p at hs
  obtain ⟨t', j'⟩ := p
  have hmem : ∀ (t : Fin n) (j : (r t).shape.Idx), (r t).emb j ∈ (r t).set := fun t j => by
    rw [← Rect.map_emb_univ]; exact Finset.mem_map_of_mem _ (Finset.mem_univ j)
  have ht : t' = t := by
    by_contra hne
    exact (Finset.disjoint_left.mp (hd t' t hne)) (hmem t' j') (hs ▸ hmem t j)
  subst ht
  have hj : j' = j := (r t').emb.injective hs
  rw [hj]

include hd hcov in
/-- Windows at contents of their own are the whole buffer at one array that has those contents. -/
theorem tiles_whole [Nonempty (b.ty.Contents (Elt F))] (V : (t : Fin n) → (r t).shape.Idx → Elt F b.ty.elt) :
    (bigSep Finset.univ fun t => owns (c : Thread nD τ) (win (Memref.whole b) (r t) (hr t)) fullShare (V t) : sProp 𝕄)
      ⊢ iprop(∃ G : Buf (Elt F) ((c : Thread nD τ).loc b), ⌜∀ t, cut G (r t) = V t⌝ ∗ (((c : Thread nD τ).loc b) ↦{fullShare} G)) := by
  obtain ⟨G, hG⟩ := tiles_agree (F := F) b r hd V (Classical.arbitrary _)
  iintro H
  iexists G
  isplitr; · ipureintro; exact hG
  have hV : V = fun t => cut G (r t) := funext fun t => (hG t).symm
  subst hV
  iapply (Entails.of_eq (whole_tiles (F := F) c b r hr hd hcov G).symm) $$ H

include hd hcov in
/-- A whole buffer at any contents is each window at any contents. -/
theorem any_tiles : iprop(∃ f : Buf (Elt F) ((c : Thread nD τ).loc b), (((c : Thread nD τ).loc b) ↦{fullShare} f))
    ⊢ (bigSep Finset.univ fun t => anyAt (c : Thread nD τ) (win (Memref.whole b) (r t) (hr t)) : sProp 𝕄) := by
  iintro ⟨%f, H⟩
  ihave H := (Entails.of_eq (whole_tiles (F := F) c b r hr hd hcov f)) $$ H
  iapply (show (bigSep Finset.univ fun t => owns (c : Thread nD τ) (win (Memref.whole b) (r t) (hr t)) fullShare (cut f (r t)) : sProp 𝕄)
    ⊢ bigSep Finset.univ fun t => anyAt (c : Thread nD τ) (win (Memref.whole b) (r t) (hr t))
    from bigSep_mono fun t _ => anyAt_of_owns _ _ _) $$ H

include hd hcov in
theorem tiles_any (G₀ : b.ty.Contents (Elt F)) :
    (bigSep Finset.univ fun t => anyAt (c : Thread nD τ) (win (Memref.whole b) (r t) (hr t)) : sProp 𝕄)
    ⊢ iprop(∃ f : Buf (Elt F) ((c : Thread nD τ).loc b), (((c : Thread nD τ).loc b) ↦{fullShare} f)) := by
  have : Nonempty (b.ty.Contents (Elt F)) := ⟨G₀⟩
  have : ∀ t, Nonempty ((r t).shape.Idx → Elt F b.ty.elt) := fun t => ⟨cut G₀ (r t)⟩
  iintro H
  ihave H := (show (bigSep Finset.univ fun t => anyAt (c : Thread nD τ) (win (Memref.whole b) (r t) (hr t)) : sProp 𝕄)
    ⊢ iprop(∃ V : (t : Fin n) → (r t).shape.Idx → Elt F b.ty.elt, bigSep Finset.univ fun t => owns (c : Thread nD τ) (win (Memref.whole b) (r t) (hr t)) fullShare (V t))
    from bigSep_exists_pi Finset.univ _) $$ H
  icases H with ⟨%V, H⟩
  ihave H := (tiles_whole (F := F) c b r hr hd hcov V) $$ H
  icases H with ⟨%G, -, H⟩
  iexists G; iexact H

end Family

/-- Stretches of rows that do not meet. -/
theorem rows_apart {R C n : ℕ} (r : Fin n → Rect ⟨2, ![R, C]⟩) (o k : Fin n → ℕ)
    (hm : ∀ t i, i ∈ (r t).set ↔ o t ≤ (i 0).val ∧ (i 0).val < o t + k t)
    (h : ∀ t t', t ≠ t' → o t + k t ≤ o t' ∨ o t' + k t' ≤ o t) : ∀ t t', t ≠ t' → Disjoint (r t).set (r t').set := by
  intro t t' hne
  rw [Finset.disjoint_left]; intro i; rw [hm, hm]
  have := h t t' hne; omega
/-- Stretches of rows that cover a matrix. -/
theorem rows_cover {R C n : ℕ} (r : Fin n → Rect ⟨2, ![R, C]⟩) (o k : Fin n → ℕ)
    (hm : ∀ t i, i ∈ (r t).set ↔ o t ≤ (i 0).val ∧ (i 0).val < o t + k t)
    (h : ∀ x, x < R → ∃ t, o t ≤ x ∧ x < o t + k t) : (Finset.univ : Finset (Fin n)).biUnion (fun t => (r t).set) = Finset.univ := by
  ext i
  simp only [Finset.mem_biUnion, Finset.mem_univ, true_and, iff_true]
  obtain ⟨t, ht⟩ := h (i 0).val (i 0).isLt
  exact ⟨t, (hm t i).mpr ht⟩

/-! ## The families -/

/-- The quarters of a row block. -/
def qs (t : Fin 4) : Rect S1024x4096 := match t with
  | 0 => q256 0 | 1 => q256 256 | 2 => q256 512 | 3 => q256 768
theorem qs_unit (t : Fin 4) : ∀ a, (qs t).stride a = 1 := by fin_cases t <;> exact fun _ => rfl
theorem mem_qs (t : Fin 4) (i) : i ∈ (qs t).set ↔ 256 * t.val ≤ (i 0).val ∧ (i 0).val < 256 * t.val + 256 := by
  fin_cases t <;> exact mem_rows (h := by decide) i
theorem qs_apart : ∀ t t', t ≠ t' → Disjoint (qs t).set (qs t').set :=
  rows_apart qs (fun t => 256 * t.val) (fun _ => 256) mem_qs (by decide)
theorem qs_cover : (Finset.univ : Finset (Fin 4)).biUnion (fun t => (qs t).set) = Finset.univ :=
  rows_cover qs (fun t => 256 * t.val) (fun _ => 256) mem_qs fun x hx => ⟨⟨x / 256, by omega⟩, by show 256 * (x / 256) ≤ x; omega, by show x < 256 * (x / 256) + 256; omega⟩

/-- The halves of a row block. -/
def hs (t : Fin 2) : Rect S1024x4096 := match t with
  | 0 => h512 0 | 1 => h512 512
theorem hs_unit (t : Fin 2) : ∀ a, (hs t).stride a = 1 := by fin_cases t <;> exact fun _ => rfl
theorem mem_hs (t : Fin 2) (i) : i ∈ (hs t).set ↔ 512 * t.val ≤ (i 0).val ∧ (i 0).val < 512 * t.val + 512 := by
  fin_cases t <;> exact mem_rows (h := by decide) i
theorem hs_apart : ∀ t t', t ≠ t' → Disjoint (hs t).set (hs t').set :=
  rows_apart hs (fun t => 512 * t.val) (fun _ => 512) mem_hs (by decide)
theorem hs_cover : (Finset.univ : Finset (Fin 2)).biUnion (fun t => (hs t).set) = Finset.univ :=
  rows_cover hs (fun t => 512 * t.val) (fun _ => 512) mem_hs fun x hx => ⟨⟨x / 512, by omega⟩, by show 512 * (x / 512) ≤ x; omega, by show x < 512 * (x / 512) + 512; omega⟩

/-- The eight tiles of a column block. -/
def ts (t : Fin 8) : Rect S4096x2048 := match t with
  | 0 => t512 ![0, 0] | 1 => t512 ![512, 0] | 2 => t512 ![1024, 0] | 3 => t512 ![1536, 0]
  | 4 => t512 ![2048, 0] | 5 => t512 ![2560, 0] | 6 => t512 ![3072, 0] | 7 => t512 ![3584, 0]
theorem ts_unit (t : Fin 8) : ∀ a, (ts t).stride a = 1 := by fin_cases t <;> exact fun _ => rfl
theorem mem_ts (t : Fin 8) (i) : i ∈ (ts t).set ↔ 512 * t.val ≤ (i 0).val ∧ (i 0).val < 512 * t.val + 512 := by
  fin_cases t <;> exact mem_rows (h := by decide) i
theorem ts_apart : ∀ t t', t ≠ t' → Disjoint (ts t).set (ts t').set :=
  rows_apart ts (fun t => 512 * t.val) (fun _ => 512) mem_ts (by decide)
theorem ts_cover : (Finset.univ : Finset (Fin 8)).biUnion (fun t => (ts t).set) = Finset.univ :=
  rows_cover ts (fun t => 512 * t.val) (fun _ => 512) mem_ts fun x hx => ⟨⟨x / 512, by omega⟩, by show 512 * (x / 512) ≤ x; omega, by show x < 512 * (x / 512) + 512; omega⟩

/-- The result's windows, and the rows they start at. -/
def yr (c : Dev nD) (t : Fin 10) : Rect S4096x2048 := match t with
  | 0 => t512 (k0_off1 c) (k0_off1_inb c)
  | 1 => t512 (k0_off2 c) (k0_off2_inb c)
  | 2 => t512 (k0_off3 c 3#32) (k0_off3_inb c 1)
  | 3 => t512 (k0_off4 c 1#32) (k0_off4_inb c 0)
  | 4 => t512 (k0_off4 c 3#32) (k0_off4_inb c 1)
  | 5 => t512 (k0_off3 c 1#32) (k0_off3_inb c 0)
  | 6 => t256 (k0_off5 c) (k0_off5_inb c)
  | 7 => t256 (k0_off6 c 512#32) (k0_off6_inb c 1)
  | 8 => t256 (k0_off6 c 256#32) (k0_off6_inb c 0)
  | 9 => t256 (k0_off6 c 768#32) (k0_off6_inb c 2)
def yo (c : Dev nD) (t : Fin 10) : ℕ := match t with
  | 0 => 1024 * c.val | 1 => 1024 * c.val + 512
  | 2 => 1024 * (prv c).val | 3 => 1024 * (nxt c).val + 512 | 4 => 1024 * (prv c).val + 512 | 5 => 1024 * (nxt c).val
  | 6 => 1024 * (opp c).val | 7 => 1024 * (opp c).val + 512 | 8 => 1024 * (opp c).val + 256 | 9 => 1024 * (opp c).val + 768
def yn (t : Fin 10) : ℕ := if t.val < 6 then 512 else 256
theorem yr_unit (c : Dev nD) (t : Fin 10) : ∀ a, (yr c t).stride a = 1 := by fin_cases t <;> exact fun _ => rfl

theorem mem_t512 {off : Fin 2 → ℕ} {h} {o : ℕ} (e : off = ![o, 0]) (i) : i ∈ (t512 off h).set ↔ o ≤ (i 0).val ∧ (i 0).val < o + 512 := by
  subst e; exact mem_rows i
theorem mem_t256 {off : Fin 2 → ℕ} {h} {o : ℕ} (e : off = ![o, 0]) (i) : i ∈ (t256 off h).set ↔ o ≤ (i 0).val ∧ (i 0).val < o + 256 := by
  subst e; exact mem_rows i
theorem mem_yr (c : Dev nD) (t : Fin 10) (i) : i ∈ (yr c t).set ↔ yo c t ≤ (i 0).val ∧ (i 0).val < yo c t + yn t := by
  match t with
  | 0 => exact mem_t512 (h := k0_off1_inb c) (k0_off1_eq c) i
  | 1 => exact mem_t512 (h := k0_off2_inb c) (k0_off2_eq c) i
  | 2 => exact mem_t512 (h := k0_off3_inb c 1) (k0_off3_eq c 1) i
  | 3 => exact mem_t512 (h := k0_off4_inb c 0) (k0_off4_eq c 0) i
  | 4 => exact mem_t512 (h := k0_off4_inb c 1) (k0_off4_eq c 1) i
  | 5 => exact mem_t512 (h := k0_off3_inb c 0) (k0_off3_eq c 0) i
  | 6 => exact mem_t256 (h := k0_off5_inb c) (k0_off5_eq c) i
  | 7 => exact mem_t256 (h := k0_off6_inb c 1) (k0_off6_eq c 1) i
  | 8 => exact mem_t256 (h := k0_off6_inb c 0) (k0_off6_eq c 0) i
  | 9 => exact mem_t256 (h := k0_off6_inb c 2) (k0_off6_eq c 2) i
theorem yr_apart (c : Dev nD) : ∀ t t', t ≠ t' → Disjoint (yr c t).set (yr c t').set :=
  rows_apart (yr c) (yo c) yn (mem_yr c) (by revert c; decide +kernel)
theorem yo_cover : ∀ (c : Dev nD) (k : Fin 16), ∃ t, yo c t ≤ 256 * k.val ∧ 256 * k.val + 256 ≤ yo c t + yn t := by decide +kernel
theorem yr_cover (c : Dev nD) : (Finset.univ : Finset (Fin 10)).biUnion (fun t => (yr c t).set) = Finset.univ :=
  rows_cover (yr c) (yo c) yn (mem_yr c) fun x hx => by
    obtain ⟨t, h1, h2⟩ := yo_cover c ⟨x / 256, by omega⟩
    refine ⟨t, ?_, ?_⟩ <;> · simp only at h1 h2; omega

variable (m : (ℓ : Loc nD τ sig) → Buf (Elt F) ℓ) (c : Dev nD)

/-- The product the kernel leaves in each of the ten windows. -/
def yv (s : F .f32) (t : Fin 10) : (yr c t).shape.Idx → F .f32 := match t with
  | 0 => V5 m c s c 0 | 1 => V5 m c s c 512
  | 2 => V5 m c s (prv c) 0 | 3 => V5 m c s (nxt c) 512 | 4 => V5 m c s (prv c) 512 | 5 => V5 m c s (nxt c) 0
  | 6 => V2 m c s (opp c) 0 | 7 => V2 m c s (opp c) 512 | 8 => V2 m c s (opp c) 256 | 9 => V2 m c s (opp c) 768

/-! ## The buffers as their windows -/

theorem x_cut : (((c : Thread nD τ).loc main_arg0) ↦{fullShare} (xIn m c) : sProp 𝕄)
    = iprop(xRows m c 0 ∗ xRows m c 256 ∗ xRows m c 512 ∗ xRows m c 768) := by
  rw [whole_tiles (F := F) c main_arg0 qs qs_unit qs_apart qs_cover, bigSep_univ_eq_bigSepL [0, 1, 2, 3] (by decide) (by decide),
    bigSepL_cons_cons, bigSepL_cons_cons, bigSepL_cons_cons, bigSepL_singleton]
  rfl
theorem w_cut : (((c : Thread nD τ).loc main_arg1) ↦{fullShare} (wIn m c) : sProp 𝕄)
    = iprop(wRows m c 0 ∗ wRows m c 512 ∗ wRows m c 1024 ∗ wRows m c 1536 ∗ wRows m c 2048 ∗ wRows m c 2560 ∗ wRows m c 3072 ∗ wRows m c 3584) := by
  rw [whole_tiles (F := F) c main_arg1 ts ts_unit ts_apart ts_cover, bigSep_univ_eq_bigSepL [0, 1, 2, 3, 4, 5, 6, 7] (by decide) (by decide)]
  simp only [bigSepL_cons_cons, bigSepL_singleton]
  rfl
theorem w8_cut : (((c : Thread nD τ).loc cc0_scratch7) ↦{fullShare} (W8 m c) : sProp 𝕄)
    = iprop(w8Rows m c 0 ∗ w8Rows m c 512 ∗ w8Rows m c 1024 ∗ w8Rows m c 1536 ∗ w8Rows m c 2048 ∗ w8Rows m c 2560 ∗ w8Rows m c 3072 ∗ w8Rows m c 3584) := by
  rw [whole_tiles (F := F) c cc0_scratch7 ts ts_unit ts_apart ts_cover, bigSep_univ_eq_bigSepL [0, 1, 2, 3, 4, 5, 6, 7] (by decide) (by decide)]
  simp only [bigSepL_cons_cons, bigSepL_singleton]
  rfl
theorem wAll_set : wAll.set = Finset.univ := rows_whole (R := 4096) (C := 2048)
/-- The eight quantised tiles are the quantised column block. -/
theorem w8_all : iprop(w8Rows m c 0 ∗ w8Rows m c 512 ∗ w8Rows m c 1024 ∗ w8Rows m c 1536 ∗ w8Rows m c 2048 ∗ w8Rows m c 2560 ∗ w8Rows m c 3072 ∗ w8Rows m c 3584)
    ⊢ w8All m c := by
  rw [← w8_cut, whole_cut c cc0_scratch7 wAll_set (fun _ => rfl) (W8 m c)]
  exact .rfl

/-- A buffer for a row block at any contents is its two halves at any contents. -/
theorem x8_open : iprop(∃ f : Buf (Elt F) ((c : Thread nD τ).loc cc0_scratch5), (((c : Thread nD τ).loc cc0_scratch5) ↦{fullShare} f))
    ⊢ (iprop(x8Free c 0 ∗ x8Free c 256 ∗ x8Free c 512 ∗ x8Free c 768) : sProp 𝕄) := by
  refine (any_tiles (F := F) c cc0_scratch5 qs qs_unit qs_apart qs_cover).trans ?_
  rw [bigSep_univ_eq_bigSepL [0, 1, 2, 3] (by decide) (by decide)]
  simp only [bigSepL_cons_cons, bigSepL_singleton]
  exact .rfl
theorem w8_open : iprop(∃ f : Buf (Elt F) ((c : Thread nD τ).loc cc0_scratch7), (((c : Thread nD τ).loc cc0_scratch7) ↦{fullShare} f))
    ⊢ (iprop(w8Free c 0 ∗ w8Free c 512 ∗ w8Free c 1024 ∗ w8Free c 1536 ∗ w8Free c 2048 ∗ w8Free c 2560 ∗ w8Free c 3072 ∗ w8Free c 3584) : sProp 𝕄) := by
  refine (any_tiles (F := F) c cc0_scratch7 ts ts_unit ts_apart ts_cover).trans ?_
  rw [bigSep_univ_eq_bigSepL [0, 1, 2, 3, 4, 5, 6, 7] (by decide) (by decide)]
  simp only [bigSepL_cons_cons, bigSepL_singleton]
  exact .rfl
/-- The result at any contents is its ten windows at any contents. -/
theorem y_open : iprop(∃ f : Buf (Elt F) ((c : Thread nD τ).loc main_v1), (((c : Thread nD τ).loc main_v1) ↦{fullShare} f))
    ⊢ (iprop(anyAt (c : Thread nD τ) (yw0 c) ∗ anyAt (c : Thread nD τ) (yw1 c) ∗ anyAt (c : Thread nD τ) (yw2 c) ∗ anyAt (c : Thread nD τ) (yw3 c)
      ∗ anyAt (c : Thread nD τ) (yw4 c) ∗ anyAt (c : Thread nD τ) (yw5 c) ∗ anyAt (c : Thread nD τ) (yw6 c) ∗ anyAt (c : Thread nD τ) (yw7 c)
      ∗ anyAt (c : Thread nD τ) (yw8 c) ∗ anyAt (c : Thread nD τ) (yw9 c)) : sProp 𝕄) := by
  refine (any_tiles (F := F) c main_v1 (yr c) (yr_unit c) (yr_apart c) (yr_cover c)).trans ?_
  rw [bigSep_univ_eq_bigSepL [0, 1, 2, 3, 4, 5, 6, 7, 8, 9] (by decide) (by decide)]
  simp only [bigSepL_cons_cons, bigSepL_singleton]
  exact .rfl
/-- The ten windows at the kernel's products are the result at one array that has them. -/
theorem y_close (s : F .f32) : (iprop(owns (c : Thread nD τ) (yw0 c) fullShare (V5 m c s c 0) ∗ owns (c : Thread nD τ) (yw1 c) fullShare (V5 m c s c 512)
      ∗ owns (c : Thread nD τ) (yw2 c) fullShare (V5 m c s (prv c) 0) ∗ owns (c : Thread nD τ) (yw3 c) fullShare (V5 m c s (nxt c) 512)
      ∗ owns (c : Thread nD τ) (yw4 c) fullShare (V5 m c s (prv c) 512) ∗ owns (c : Thread nD τ) (yw5 c) fullShare (V5 m c s (nxt c) 0)
      ∗ owns (c : Thread nD τ) (yw6 c) fullShare (V2 m c s (opp c) 0) ∗ owns (c : Thread nD τ) (yw7 c) fullShare (V2 m c s (opp c) 512)
      ∗ owns (c : Thread nD τ) (yw8 c) fullShare (V2 m c s (opp c) 256) ∗ owns (c : Thread nD τ) (yw9 c) fullShare (V2 m c s (opp c) 768)) : sProp 𝕄)
    ⊢ iprop(∃ G : Buf (Elt F) ((c : Thread nD τ).loc main_v1), ⌜∀ t, cut G (yr c t) = yv m c s t⌝ ∗ (((c : Thread nD τ).loc main_v1) ↦{fullShare} G)) := by
  have : Nonempty ((main_v1 : Ref sig .tc).ty.Contents (Elt F)) := ⟨m ((c : Thread nD τ).loc main_v1)⟩
  have h := tiles_whole (F := F) c main_v1 (yr c) (yr_unit c) (yr_apart c) (yr_cover c) (yv m c s)
  rw [bigSep_univ_eq_bigSepL [0, 1, 2, 3, 4, 5, 6, 7, 8, 9] (by decide) (by decide)] at h
  simp only [bigSepL_cons_cons, bigSepL_singleton] at h
  exact h
theorem rL_open : iprop(∃ f : Buf (Elt F) ((c : Thread nD τ).loc cc0_scratch0), (((c : Thread nD τ).loc cc0_scratch0) ↦{fullShare} f))
    ⊢ (iprop(anyAt (c : Thread nD τ) (win rL (h512 0)) ∗ anyAt (c : Thread nD τ) (win rL (h512 512))) : sProp 𝕄) := by
  refine (any_tiles (F := F) c cc0_scratch0 hs hs_unit hs_apart hs_cover).trans ?_
  rw [bigSep_univ_eq_bigSepL [0, 1] (by decide) (by decide)]
  simp only [bigSepL_cons_cons, bigSepL_singleton]
  exact .rfl
theorem rR_open : iprop(∃ f : Buf (Elt F) ((c : Thread nD τ).loc cc0_scratch1), (((c : Thread nD τ).loc cc0_scratch1) ↦{fullShare} f))
    ⊢ (iprop(anyAt (c : Thread nD τ) (win rR (h512 0)) ∗ anyAt (c : Thread nD τ) (win rR (h512 512))) : sProp 𝕄) := by
  refine (any_tiles (F := F) c cc0_scratch1 hs hs_unit hs_apart hs_cover).trans ?_
  rw [bigSep_univ_eq_bigSepL [0, 1] (by decide) (by decide)]
  simp only [bigSepL_cons_cons, bigSepL_singleton]
  exact .rfl
theorem rD_open : iprop(∃ f : Buf (Elt F) ((c : Thread nD τ).loc cc0_scratch2), (((c : Thread nD τ).loc cc0_scratch2) ↦{fullShare} f))
    ⊢ (iprop(anyAt (c : Thread nD τ) (win rD (q256 0)) ∗ anyAt (c : Thread nD τ) (win rD (q256 256)) ∗ anyAt (c : Thread nD τ) (win rD (q256 512)) ∗ anyAt (c : Thread nD τ) (win rD (q256 768))) : sProp 𝕄) := by
  refine (any_tiles (F := F) c cc0_scratch2 qs qs_unit qs_apart qs_cover).trans ?_
  rw [bigSep_univ_eq_bigSepL [0, 1, 2, 3] (by decide) (by decide)]
  simp only [bigSepL_cons_cons, bigSepL_singleton]
  exact .rfl
/-- The landing buffers: what a device lends to its left and to its right. -/
theorem r_open : iprop((∃ f : Buf (Elt F) ((c : Thread nD τ).loc cc0_scratch0), (((c : Thread nD τ).loc cc0_scratch0) ↦{fullShare} f))
      ∗ (∃ f : Buf (Elt F) ((c : Thread nD τ).loc cc0_scratch1), (((c : Thread nD τ).loc cc0_scratch1) ↦{fullShare} f))
      ∗ (∃ f : Buf (Elt F) ((c : Thread nD τ).loc cc0_scratch2), (((c : Thread nD τ).loc cc0_scratch2) ↦{fullShare} f)))
    ⊢ (iprop(lendL c ∗ lendR c) : sProp 𝕄) := by
  unfold lendL lendR
  iintro ⟨H0, H1, H2⟩
  ihave H0 := (rL_open (F := F) c) $$ H0
  ihave H1 := (rR_open (F := F) c) $$ H1
  ihave H2 := (rD_open (F := F) c) $$ H2
  icases H0 with ⟨Ha, Hb⟩
  icases H1 with ⟨Hc, Hd⟩
  icases H2 with ⟨He, Hf, Hg, Hh⟩
  isplitl [Ha Hb He Hf]
  · isplitl [Ha]; · iexact Ha
    isplitl [Hb]; · iexact Hb
    isplitl [He]; · iexact He
    iexact Hf
  · isplitl [Hc]; · iexact Hc
    isplitl [Hd]; · iexact Hd
    isplitl [Hg]; · iexact Hg
    iexact Hh

/-- The slots of the two double buffers and of the result buffer. -/
def xs (t : Fin 2) : Rect S2x256x4096 := match t with
  | 0 => xSlot 0 | 1 => xSlot 1
def ws (t : Fin 2) : Rect S2x512x2048 := match t with
  | 0 => wSlot 0 | 1 => wSlot 1
def os (t : Fin 4) : Rect S4x512x2048 := match t with
  | 0 => oSlot 0 | 1 => oSlot 1 | 2 => oSlot 2 | 3 => oSlot 3

theorem slots_apart {P R C n : ℕ} (r : Fin n → Rect ⟨3, ![P, R, C]⟩)
    (hm : ∀ t i, i ∈ (r t).set ↔ (t.val ≤ (i 0).val ∧ (i 0).val < t.val + 1) ∧ (0 ≤ (i 1).val ∧ (i 1).val < 0 + R)) :
    ∀ t t', t ≠ t' → Disjoint (r t).set (r t').set := by
  intro t t' hne
  rw [Finset.disjoint_left]; intro i; rw [hm, hm]
  have : t.val ≠ t'.val := fun h => hne (Fin.ext h)
  omega
theorem slots_cover {P R C : ℕ} (r : Fin P → Rect ⟨3, ![P, R, C]⟩)
    (hm : ∀ t i, i ∈ (r t).set ↔ (t.val ≤ (i 0).val ∧ (i 0).val < t.val + 1) ∧ (0 ≤ (i 1).val ∧ (i 1).val < 0 + R)) :
    (Finset.univ : Finset (Fin P)).biUnion (fun t => (r t).set) = Finset.univ := by
  ext i
  simp only [Finset.mem_biUnion, Finset.mem_univ, true_and, iff_true]
  have h1 : (i 1).val < R := (i 1).isLt
  exact ⟨(i 0 : Fin P), (hm _ i).mpr ⟨⟨Nat.le_refl _, Nat.lt_succ_self _⟩, Nat.zero_le _, by omega⟩⟩
theorem mem_xs (t : Fin 2) (i) : i ∈ (xs t).set ↔ (t.val ≤ (i 0).val ∧ (i 0).val < t.val + 1) ∧ (0 ≤ (i 1).val ∧ (i 1).val < 0 + 256) := by
  fin_cases t <;> exact mem_stack (h := by decide) i
theorem mem_ws (t : Fin 2) (i) : i ∈ (ws t).set ↔ (t.val ≤ (i 0).val ∧ (i 0).val < t.val + 1) ∧ (0 ≤ (i 1).val ∧ (i 1).val < 0 + 512) := by
  fin_cases t <;> exact mem_stack (h := by decide) i
theorem mem_os (t : Fin 4) (i) : i ∈ (os t).set ↔ (t.val ≤ (i 0).val ∧ (i 0).val < t.val + 1) ∧ (0 ≤ (i 1).val ∧ (i 1).val < 0 + 512) := by
  fin_cases t <;> exact mem_stack (h := by decide) i
theorem xs_unit (t : Fin 2) : ∀ a, (xs t).stride a = 1 := by fin_cases t <;> exact fun _ => rfl
theorem ws_unit (t : Fin 2) : ∀ a, (ws t).stride a = 1 := by fin_cases t <;> exact fun _ => rfl
theorem os_unit (t : Fin 4) : ∀ a, (os t).stride a = 1 := by fin_cases t <;> exact fun _ => rfl

theorem xF_open : iprop(∃ f : Buf (Elt F) ((c : Thread nD τ).loc cc0_scratch4), (((c : Thread nD τ).loc cc0_scratch4) ↦{fullShare} f))
    ⊢ (iprop(xFree c 0 ∗ xFree c 1) : sProp 𝕄) := by
  refine (any_tiles (F := F) c cc0_scratch4 xs xs_unit (slots_apart xs mem_xs) (slots_cover xs mem_xs)).trans ?_
  rw [bigSep_univ_eq_bigSepL [0, 1] (by decide) (by decide), bigSepL_cons_cons, bigSepL_singleton]
  exact .rfl
theorem wF_open : iprop(∃ f : Buf (Elt F) ((c : Thread nD τ).loc cc0_scratch6), (((c : Thread nD τ).loc cc0_scratch6) ↦{fullShare} f))
    ⊢ (iprop(wFree c 0 ∗ wFree c 1) : sProp 𝕄) := by
  refine (any_tiles (F := F) c cc0_scratch6 ws ws_unit (slots_apart ws mem_ws) (slots_cover ws mem_ws)).trans ?_
  rw [bigSep_univ_eq_bigSepL [0, 1] (by decide) (by decide), bigSepL_cons_cons, bigSepL_singleton]
  exact .rfl
theorem oV_open : iprop(∃ f : Buf (Elt F) ((c : Thread nD τ).loc cc0_scratch3), (((c : Thread nD τ).loc cc0_scratch3) ↦{fullShare} f))
    ⊢ (iprop(oFree c 0 ∗ oFree c 1 ∗ oFree c 2 ∗ oFree c 3) : sProp 𝕄) := by
  refine (any_tiles (F := F) c cc0_scratch3 os os_unit (slots_apart os mem_os) (slots_cover os mem_os)).trans ?_
  rw [bigSep_univ_eq_bigSepL [0, 1, 2, 3] (by decide) (by decide)]
  simp only [bigSepL_cons_cons, bigSepL_singleton]
  exact .rfl

/-! ## The buffers put together again -/

section Any

include m
theorem xF_any : (iprop(xFree c 0 ∗ xFree c 1) : sProp 𝕄)
    ⊢ iprop(∃ f : Buf (Elt F) ((c : Thread nD τ).loc cc0_scratch4), (((c : Thread nD τ).loc cc0_scratch4) ↦{fullShare} f)) := by
  have h := tiles_any (F := F) c cc0_scratch4 xs xs_unit (slots_apart xs mem_xs) (slots_cover xs mem_xs) (m ((c : Thread nD τ).loc cc0_scratch4))
  rw [bigSep_univ_eq_bigSepL [0, 1] (by decide) (by decide)] at h
  simp only [bigSepL_cons_cons, bigSepL_singleton] at h
  exact h
theorem wF_any : (iprop(wFree c 0 ∗ wFree c 1) : sProp 𝕄)
    ⊢ iprop(∃ f : Buf (Elt F) ((c : Thread nD τ).loc cc0_scratch6), (((c : Thread nD τ).loc cc0_scratch6) ↦{fullShare} f)) := by
  have h := tiles_any (F := F) c cc0_scratch6 ws ws_unit (slots_apart ws mem_ws) (slots_cover ws mem_ws) (m ((c : Thread nD τ).loc cc0_scratch6))
  rw [bigSep_univ_eq_bigSepL [0, 1] (by decide) (by decide)] at h
  simp only [bigSepL_cons_cons, bigSepL_singleton] at h
  exact h
theorem oV_any : (iprop(oFree c 0 ∗ oFree c 1 ∗ oFree c 2 ∗ oFree c 3) : sProp 𝕄)
    ⊢ iprop(∃ f : Buf (Elt F) ((c : Thread nD τ).loc cc0_scratch3), (((c : Thread nD τ).loc cc0_scratch3) ↦{fullShare} f)) := by
  have h := tiles_any (F := F) c cc0_scratch3 os os_unit (slots_apart os mem_os) (slots_cover os mem_os) (m ((c : Thread nD τ).loc cc0_scratch3))
  rw [bigSep_univ_eq_bigSepL [0, 1, 2, 3] (by decide) (by decide)] at h
  simp only [bigSepL_cons_cons, bigSepL_singleton] at h
  exact h
end Any

theorem x8_all : (iprop(x8Half m c 0 fullShare ∗ x8Half m c 512 fullShare) : sProp 𝕄) ⊢ iprop(∃ f : Buf (Elt F) ((c : Thread nD τ).loc cc0_scratch5), (((c : Thread nD τ).loc cc0_scratch5) ↦{fullShare} f)) := by
  have h : (iprop(x8Half m c 0 fullShare ∗ x8Half m c 512 fullShare) : sProp 𝕄) ⊢ (((c : Thread nD τ).loc cc0_scratch5) ↦{fullShare} (X8 m c)) := by
    rw [whole_tiles (F := F) c cc0_scratch5 hs hs_unit hs_apart hs_cover (X8 m c), bigSep_univ_eq_bigSepL [0, 1] (by decide) (by decide)]
    simp only [bigSepL_cons_cons, bigSepL_singleton]
    exact .rfl
  iintro H; iexists (X8 m c)
  iapply h $$ H
theorem rL_all : (iprop(rLHalf m c 0 fullShare ∗ rLHalf m c 512 fullShare) : sProp 𝕄) ⊢ iprop(∃ f : Buf (Elt F) ((c : Thread nD τ).loc cc0_scratch0), (((c : Thread nD τ).loc cc0_scratch0) ↦{fullShare} f)) := by
  have h : (iprop(rLHalf m c 0 fullShare ∗ rLHalf m c 512 fullShare) : sProp 𝕄) ⊢ (((c : Thread nD τ).loc cc0_scratch0) ↦{fullShare} (X8 m (prv c))) := by
    rw [whole_tiles (F := F) c cc0_scratch0 hs hs_unit hs_apart hs_cover (X8 m (prv c)), bigSep_univ_eq_bigSepL [0, 1] (by decide) (by decide)]
    simp only [bigSepL_cons_cons, bigSepL_singleton]
    exact .rfl
  iintro H; iexists (X8 m (prv c))
  iapply h $$ H
theorem rR_all : (iprop(rRHalf m c 0 fullShare ∗ rRHalf m c 512 fullShare) : sProp 𝕄) ⊢ iprop(∃ f : Buf (Elt F) ((c : Thread nD τ).loc cc0_scratch1), (((c : Thread nD τ).loc cc0_scratch1) ↦{fullShare} f)) := by
  have h : (iprop(rRHalf m c 0 fullShare ∗ rRHalf m c 512 fullShare) : sProp 𝕄) ⊢ (((c : Thread nD τ).loc cc0_scratch1) ↦{fullShare} (X8 m (nxt c))) := by
    rw [whole_tiles (F := F) c cc0_scratch1 hs hs_unit hs_apart hs_cover (X8 m (nxt c)), bigSep_univ_eq_bigSepL [0, 1] (by decide) (by decide)]
    simp only [bigSepL_cons_cons, bigSepL_singleton]
    exact .rfl
  iintro H; iexists (X8 m (nxt c))
  iapply h $$ H
theorem rD_all : (iprop(rDRows m c 0 ∗ rDRows m c 256 ∗ rDRows m c 512 ∗ rDRows m c 768) : sProp 𝕄) ⊢ iprop(∃ f : Buf (Elt F) ((c : Thread nD τ).loc cc0_scratch2), (((c : Thread nD τ).loc cc0_scratch2) ↦{fullShare} f)) := by
  have h : (iprop(rDRows m c 0 ∗ rDRows m c 256 ∗ rDRows m c 512 ∗ rDRows m c 768) : sProp 𝕄) ⊢ (((c : Thread nD τ).loc cc0_scratch2) ↦{fullShare} (X8 m (opp c))) := by
    rw [whole_tiles (F := F) c cc0_scratch2 qs qs_unit qs_apart qs_cover (X8 m (opp c)), bigSep_univ_eq_bigSepL [0, 1, 2, 3] (by decide) (by decide)]
    simp only [bigSepL_cons_cons, bigSepL_singleton]
    exact .rfl
  iintro H; iexists (X8 m (opp c))
  iapply h $$ H
theorem w8_close : w8All m c ⊢ iprop(∃ f : Buf (Elt F) ((c : Thread nD τ).loc cc0_scratch7), (((c : Thread nD τ).loc cc0_scratch7) ↦{fullShare} f)) := by
  iintro H; iexists (W8 m c)
  iapply (Entails.of_eq (whole_cut c cc0_scratch7 wAll_set (fun _ => rfl) (W8 m c)).symm) $$ H

/-- The shares of a half kept, sent right and sent left are the half. -/
theorem x8_join (r : ℕ) (hr : ∀ a, (![r, 0] : Fin 2 → ℕ) a + S512x4096.size a ≤ S1024x4096.size a) :
    iprop(x8Half m c r qK hr ∗ x8Half m c r qA hr ∗ x8Half m c r qB hr) ⊢ x8Half m c r fullShare hr := by
  iintro ⟨HK, HS⟩
  ihave HS := (owns_unshare (c : Thread nD τ) (win x8 (h512 r hr) (fun _ => rfl)) (PosShare.mem_left_op_right qS) (cut (X8 m c) (h512 r hr))) $$ HS
  iapply (owns_unshare (c : Thread nD τ) (win x8 (h512 r hr) (fun _ => rfl)) (PosShare.mem_left_op_right fullShare) (cut (X8 m c) (h512 r hr)))
  isplitl [HK]; · iexact HK
  iexact HS
theorem x8_close : iprop((x8Half m c 0 qK ∗ x8Half m c 512 qK) ∗ sendPay m c 0 ∗ sendPay m c 1 ∗ sendPay m c 2 ∗ sendPay m c 3)
    ⊢ iprop(∃ f : Buf (Elt F) ((c : Thread nD τ).loc cc0_scratch5), (((c : Thread nD τ).loc cc0_scratch5) ↦{fullShare} f)) := by
  iintro ⟨⟨H0, H5⟩, Ha, Hb, Hc, Hd⟩
  ihave Ha := (show sendPay m c 0 ⊢ x8Half m c 0 qA inb_S1024x4096_S512x4096_0_0 from .rfl) $$ Ha
  ihave Hb := (show sendPay m c 1 ⊢ x8Half m c 512 qA inb_S1024x4096_S512x4096_512_0 from .rfl) $$ Hb
  ihave Hc := (show sendPay m c 2 ⊢ x8Half m c 0 qB inb_S1024x4096_S512x4096_0_0 from .rfl) $$ Hc
  ihave Hd := (show sendPay m c 3 ⊢ x8Half m c 512 qB inb_S1024x4096_S512x4096_512_0 from .rfl) $$ Hd
  iapply (x8_all m c)
  isplitl [H0 Ha Hc]
  · iapply (x8_join m c 0 inb_S1024x4096_S512x4096_0_0)
    isplitl [H0]; · iexact H0
    isplitl [Ha]; · iexact Ha
    iexact Hc
  · iapply (x8_join m c 512 inb_S1024x4096_S512x4096_512_0)
    isplitl [H5]; · iexact H5
    isplitl [Hb]; · iexact Hb
    iexact Hd
theorem rL_close : iprop(rLHalf m c 0 qK ∗ rLHalf m c 512 fullShare ∗ sendPay m c 4 ∗ sendPay m c 5)
    ⊢ iprop(∃ f : Buf (Elt F) ((c : Thread nD τ).loc cc0_scratch0), (((c : Thread nD τ).loc cc0_scratch0) ↦{fullShare} f)) := by
  iintro ⟨HK, HF, Ha, Hb⟩
  iapply (rL_all m c)
  isplitl [HK Ha Hb]
  · iapply (owns_unshare (c : Thread nD τ) (win rL (h512 0 inb_S1024x4096_S512x4096_0_0) (fun _ => rfl)) (PosShare.mem_left_op_right fullShare) (cut (X8 m (prv c)) (h512 0 inb_S1024x4096_S512x4096_0_0)))
    isplitl [HK]; · iexact HK
    iapply (cut_two c cc0_scratch0 (r := h512 0 inb_S1024x4096_S512x4096_0_0) (r₁ := q256 0 inb_S1024x4096_S256x4096_0_0) (r₂ := q256 256 inb_S1024x4096_S256x4096_256_0)
      (rows_disjoint (R := 1024) (C := 4096) (n := 256) (n' := 256)) (rows_union (R := 1024) (C := 4096) (n := 256) (n' := 256))
      (fun _ => rfl) (fun _ => rfl) (fun _ => rfl) qS (X8 m (prv c))).2
    isplitl [Ha]
    · iapply (show sendPay m c 4 ⊢ owns (c : Thread nD τ) (win rL (q256 0 inb_S1024x4096_S256x4096_0_0) (fun _ => rfl)) qS (cut (X8 m (prv c)) (q256 0 inb_S1024x4096_S256x4096_0_0)) from .rfl) $$ Ha
    · iapply (show sendPay m c 5 ⊢ owns (c : Thread nD τ) (win rL (q256 256 inb_S1024x4096_S256x4096_256_0) (fun _ => rfl)) qS (cut (X8 m (prv c)) (q256 256 inb_S1024x4096_S256x4096_256_0)) from .rfl) $$ Hb
  · iexact HF
theorem rR_close : iprop(rRHalf m c 512 qK ∗ rRHalf m c 0 fullShare ∗ sendPay m c 6 ∗ sendPay m c 7)
    ⊢ iprop(∃ f : Buf (Elt F) ((c : Thread nD τ).loc cc0_scratch1), (((c : Thread nD τ).loc cc0_scratch1) ↦{fullShare} f)) := by
  iintro ⟨HK, HF, Ha, Hb⟩
  iapply (rR_all m c)
  isplitl [HF]; · iexact HF
  · iapply (owns_unshare (c : Thread nD τ) (win rR (h512 512 inb_S1024x4096_S512x4096_512_0) (fun _ => rfl)) (PosShare.mem_left_op_right fullShare) (cut (X8 m (nxt c)) (h512 512 inb_S1024x4096_S512x4096_512_0)))
    isplitl [HK]; · iexact HK
    iapply (cut_two c cc0_scratch1 (r := h512 512 inb_S1024x4096_S512x4096_512_0) (r₁ := q256 512 inb_S1024x4096_S256x4096_512_0) (r₂ := q256 768 inb_S1024x4096_S256x4096_768_0)
      (rows_disjoint (R := 1024) (C := 4096) (n := 256) (n' := 256)) (rows_union (R := 1024) (C := 4096) (n := 256) (n' := 256))
      (fun _ => rfl) (fun _ => rfl) (fun _ => rfl) qS (X8 m (nxt c))).2
    isplitl [Ha]
    · iapply (show sendPay m c 6 ⊢ owns (c : Thread nD τ) (win rR (q256 512 inb_S1024x4096_S256x4096_512_0) (fun _ => rfl)) qS (cut (X8 m (nxt c)) (q256 512 inb_S1024x4096_S256x4096_512_0)) from .rfl) $$ Ha
    · iapply (show sendPay m c 7 ⊢ owns (c : Thread nD τ) (win rR (q256 768 inb_S1024x4096_S256x4096_768_0) (fun _ => rfl)) qS (cut (X8 m (nxt c)) (q256 768 inb_S1024x4096_S256x4096_768_0)) from .rfl) $$ Hb
include m in
/-- The result slots, two of them by halves, are the result buffer. -/
theorem oV_close : (iprop((oFree c 0 ∗ oFree c 1) ∗ (oFreeH c 2 0 ∗ oFreeH c 2 256) ∗ (oFreeH c 3 0 ∗ oFreeH c 3 256)) : sProp 𝕄)
    ⊢ iprop(∃ f : Buf (Elt F) ((c : Thread nD τ).loc cc0_scratch3), (((c : Thread nD τ).loc cc0_scratch3) ↦{fullShare} f)) := by
  iintro ⟨⟨H0, H1⟩, H2, H3⟩
  iapply (oV_any m c)
  isplitl [H0]; · iexact H0
  isplitl [H1]; · iexact H1
  isplitl [H2]
  · iapply (anyAt_join (c : Thread nD τ) oV _ _ _ (fun _ => rfl) (fun _ => rfl) (fun _ => rfl)
      (slot_disjoint (P := 4) (R := 512) (C := 2048) (p := 1) (n := 256) (n' := 256)) (slot_union (P := 4) (R := 512) (C := 2048) (p := 1) (n := 256) (n' := 256))) $$ H2
  · iapply (anyAt_join (c : Thread nD τ) oV _ _ _ (fun _ => rfl) (fun _ => rfl) (fun _ => rfl)
      (slot_disjoint (P := 4) (R := 512) (C := 2048) (p := 1) (n := 256) (n' := 256)) (slot_union (P := 4) (R := 512) (C := 2048) (p := 1) (n := 256) (n' := 256))) $$ H3

end Cert.KProof
end
-- ==== Proof.Body.lean ====
/-
# 01_k — `Body`: the whole kernel on one device

The stretches one after the other, from what a device has at the start to what it has at the end.
-/
module

public import proofs.«01_k».proof.Proof.Cuts

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

theorem lendL_eq : (lendL c : sProp 𝕄) = iprop(anyAt (c : Thread nD τ) (win rL (h512 0)) ∗ anyAt (c : Thread nD τ) (win rL (h512 512))
    ∗ anyAt (c : Thread nD τ) (win rD (q256 0)) ∗ anyAt (c : Thread nD τ) (win rD (q256 256))) := rfl
theorem lendR_eq : (lendR c : sProp 𝕄) = iprop(anyAt (c : Thread nD τ) (win rR (h512 0)) ∗ anyAt (c : Thread nD τ) (win rR (h512 512))
    ∗ anyAt (c : Thread nD τ) (win rD (q256 512)) ∗ anyAt (c : Thread nD τ) (win rD (q256 768))) := rfl

/-- Ending a program gives its result. -/
theorem go_ret {Q : PUnit → sProp (MT nD τ sig Unit (Elt F) ℕ UU ℕ)} : Q ⟨⟩ ⊢ go (F := F) c (Prog.ret PUnit.unit) Q := by
  unfold go
  rw [wp_ret]
  iintro H
  imodintro
  iexact H

variable (sa sb : FVec F S1 .f32)

/-- What a device starts the kernel with, cut up: what it owes and its tokens, its waits, its local semaphores at rest, and
the windows of its buffers. -/
abbrev bodyIn : sProp 𝕄 := iprop(((∃ W, owes (c : Thread nD τ) (O₀ c) W) ∗ dutyTok ER (barCell (prv c)) 0 true ∗ dutyTok ER (barCell (nxt c)) 0 false ∗ cred (tallyAt (barCell c) () 2) ∗ atPos ER (barCell c) 0 ∅ 0)
    ∗ (tok c 0 ∗ tok c 1 ∗ tok c 2 ∗ tok c 3 ∗ tok c 4 ∗ tok c 5 ∗ tok c 6 ∗ tok c 7)
    ∗ (waitR c 0 ∗ waitR c 1 ∗ waitR c 2 ∗ waitR c 3 ∗ waitR c 4 ∗ waitR c 5 ∗ waitR c 6 ∗ waitR c 7)
    ∗ (atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0)
    ∗ (copyZero c 0 ∗ copyZero c 1 ∗ copyZero c 2 ∗ copyZero c 3 ∗ copyZero c 4 ∗ copyZero c 5 ∗ copyZero c 6 ∗ copyZero c 7 ∗ copyZero c 8 ∗ copyZero c 9)
    ∗ (ldZero c 0 ∗ ldZero c 1 ∗ ldZero c 2 ∗ ldZero c 3)
    ∗ (lendL c ∗ lendR c)
    ∗ (xRows m c 0 ∗ xRows m c 256 ∗ xRows m c 512 ∗ xRows m c 768)
    ∗ (wRows m c 0 ∗ wRows m c 512 ∗ wRows m c 1024 ∗ wRows m c 1536 ∗ wRows m c 2048 ∗ wRows m c 2560 ∗ wRows m c 3072 ∗ wRows m c 3584)
    ∗ (owns (c : Thread nD τ) (win aM r1) fullShare (cut sa r1) ∗ owns (c : Thread nD τ) (win bM r1) fullShare (cut sb r1))
    ∗ (x8Free (F := F) c 0 ∗ x8Free (F := F) c 256 ∗ x8Free (F := F) c 512 ∗ x8Free (F := F) c 768)
    ∗ (w8Free (F := F) c 0 ∗ w8Free (F := F) c 512 ∗ w8Free (F := F) c 1024 ∗ w8Free (F := F) c 1536 ∗ w8Free (F := F) c 2048 ∗ w8Free (F := F) c 2560 ∗ w8Free (F := F) c 3072 ∗ w8Free (F := F) c 3584)
    ∗ (xFree (F := F) c 0 ∗ xFree (F := F) c 1)
    ∗ (wFree (F := F) c 0 ∗ wFree (F := F) c 1)
    ∗ (oFree (F := F) c 0 ∗ oFree (F := F) c 1 ∗ oFree (F := F) c 2 ∗ oFree (F := F) c 3)
    ∗ (anyAt (c : Thread nD τ) (yw0 c) ∗ anyAt (c : Thread nD τ) (yw1 c) ∗ anyAt (c : Thread nD τ) (yw2 c) ∗ anyAt (c : Thread nD τ) (yw3 c) ∗ anyAt (c : Thread nD τ) (yw4 c) ∗ anyAt (c : Thread nD τ) (yw5 c) ∗ anyAt (c : Thread nD τ) (yw6 c) ∗ anyAt (c : Thread nD τ) (yw7 c) ∗ anyAt (c : Thread nD τ) (yw8 c) ∗ anyAt (c : Thread nD τ) (yw9 c)))

/-- What it ends with: nothing owed, every semaphore at rest, its operands as they were, the products in the result's windows,
and every other buffer in pieces. -/
abbrev bodyOut : sProp 𝕄 := iprop((due c [] ∗ semVal (barCell c) 0)
    ∗ (recvZero c 0 ∗ recvZero c 1 ∗ recvZero c 2 ∗ recvZero c 3 ∗ recvZero c 4 ∗ recvZero c 5 ∗ recvZero c 6 ∗ recvZero c 7)
    ∗ (sendZero c 0 ∗ sendZero c 1 ∗ sendZero c 2 ∗ sendZero c 3 ∗ sendZero c 4 ∗ sendZero c 5 ∗ sendZero c 6 ∗ sendZero c 7)
    ∗ (copyZero c 0 ∗ copyZero c 1 ∗ copyZero c 2 ∗ copyZero c 3 ∗ copyZero c 4 ∗ copyZero c 5 ∗ copyZero c 6 ∗ copyZero c 7 ∗ copyZero c 8 ∗ copyZero c 9)
    ∗ (ldZero c 0 ∗ ldZero c 1 ∗ ldZero c 2 ∗ ldZero c 3)
    ∗ (xRows m c 0 ∗ xRows m c 256 ∗ xRows m c 512 ∗ xRows m c 768)
    ∗ (wRows m c 0 ∗ wRows m c 512 ∗ wRows m c 1024 ∗ wRows m c 1536 ∗ wRows m c 2048 ∗ wRows m c 2560 ∗ wRows m c 3072 ∗ wRows m c 3584)
    ∗ (owns (c : Thread nD τ) (win aM r1) fullShare (cut sa r1) ∗ owns (c : Thread nD τ) (win bM r1) fullShare (cut sb r1))
    ∗ (owns (c : Thread nD τ) (yw0 c) fullShare (V5 m c (scOf sa sb) c 0) ∗ owns (c : Thread nD τ) (yw1 c) fullShare (V5 m c (scOf sa sb) c 512) ∗ owns (c : Thread nD τ) (yw2 c) fullShare (V5 m c (scOf sa sb) (prv c) 0) ∗ owns (c : Thread nD τ) (yw3 c) fullShare (V5 m c (scOf sa sb) (nxt c) 512) ∗ owns (c : Thread nD τ) (yw4 c) fullShare (V5 m c (scOf sa sb) (prv c) 512) ∗ owns (c : Thread nD τ) (yw5 c) fullShare (V5 m c (scOf sa sb) (nxt c) 0) ∗ owns (c : Thread nD τ) (yw6 c) fullShare (V2 m c (scOf sa sb) (opp c) 0) ∗ owns (c : Thread nD τ) (yw7 c) fullShare (V2 m c (scOf sa sb) (opp c) 512) ∗ owns (c : Thread nD τ) (yw8 c) fullShare (V2 m c (scOf sa sb) (opp c) 256) ∗ owns (c : Thread nD τ) (yw9 c) fullShare (V2 m c (scOf sa sb) (opp c) 768))
    ∗ ((x8Half m c 0 qK ∗ x8Half m c 512 qK) ∗ sendPay m c 0 ∗ sendPay m c 1 ∗ sendPay m c 2 ∗ sendPay m c 3)
    ∗ (rLHalf m c 0 qK ∗ rLHalf m c 512 fullShare ∗ sendPay m c 4 ∗ sendPay m c 5)
    ∗ (rRHalf m c 512 qK ∗ rRHalf m c 0 fullShare ∗ sendPay m c 6 ∗ sendPay m c 7)
    ∗ (rDRows m c 0 ∗ rDRows m c 256 ∗ rDRows m c 512 ∗ rDRows m c 768)
    ∗ (w8All m c)
    ∗ (xFree (F := F) c 0 ∗ xFree (F := F) c 1)
    ∗ (wFree (F := F) c 0 ∗ wFree (F := F) c 1)
    ∗ ((oFree (F := F) c 0 ∗ oFree (F := F) c 1) ∗ (oFreeH (F := F) c 2 0 ∗ oFreeH (F := F) c 2 256) ∗ (oFreeH (F := F) c 3 0 ∗ oFreeH (F := F) c 3 256)))

variable {Q : PUnit → sProp (MT nD τ sig Unit (Elt F) ℕ UU ℕ)}

set_option maxHeartbeats 4000000 in
/-- The kernel on one device, from its pieces at the start to its pieces at the end. -/
theorem body_run : iprop(env m K ∗ bodyIn m c sa sb)
    ⊢ iprop((bodyOut m c sa sb -∗ Q ⟨⟩) -∗ go c (onArgs (cc0_body (F := F))) Q) := by
  rw [cc0_body_eq_skeleton]; unfold onArgs cc0_body_skel
  simp only [Prog.lift, Prog.pure_eq_ret]
  iintro ⟨#He, ⟨HO, HtP, HtN, HcB, HatB⟩, ⟨Tk0, Tk1, Tk2, Tk3, Tk4, Tk5, Tk6, Tk7⟩, ⟨Wr0, Wr1, Wr2, Wr3, Wr4, Wr5, Wr6, Wr7⟩, ⟨As0, As1, As2, As3, As4, As5, As6, As7⟩, ⟨C0, C1, C2, C3, C4, C5, C6, C7, C8, C9⟩, ⟨L0, L1, L2, L3⟩, ⟨HlL, HlR⟩, ⟨X0, X1, X2, X3⟩, ⟨W0, W1, W2, W3, W4, W5, W6, W7⟩, ⟨Sa, Sb⟩, ⟨Q0, Q1, Q2, Q3⟩, ⟨V0, V1, V2, V3, V4, V5, V6, V7⟩, ⟨Xs0, Xs1⟩, ⟨Ws0, Ws1⟩, ⟨O0, O1, O2, O3⟩, ⟨R0, R1, R2, R3, R4, R5, R6, R7, R8, R9⟩⟩ Hk
  iapply (part1 m K c) $$ [HO HtP HtN HlL HlR HcB HatB X0 Xs0 L0 X1 Xs1 L1]
  · isplitr; · iexact He
    isplitl [HO]; · iexact HO
    isplitl [HtP]; · iexact HtP
    isplitl [HtN]; · iexact HtN
    isplitl [HlL]; · iexact HlL
    isplitl [HlR]; · iexact HlR
    isplitl [HcB]; · iexact HcB
    isplitl [HatB]; · iexact HatB
    isplitl [X0 Xs0 L0]
    · isplitl [X0]; · iexact X0
      isplitl [Xs0]; · iexact Xs0
      iexact L0
    isplitl [X1]; · iexact X1
    isplitl [Xs1]; · iexact Xs1
    iexact L1
  iintro %v2 %v4 %v6 %v8 ⟨HO, HzB, HbR, HbL, F0, F1⟩
  ihave HbR := (Entails.of_eq (lendR_eq (F := F) (prv c))) $$ HbR
  ihave HbL := (Entails.of_eq (lendL_eq (F := F) (nxt c))) $$ HbL
  icases HbR with ⟨dR0, dR5, dD5, dD7⟩
  icases HbL with ⟨dL0, dL5, dD0, dD2⟩
  iapply (part2 m K c) $$ [HO F0 F1 Q0 Q1 X2]
  · isplitr; · iexact He
    isplitl [HO]; · iexact HO
    isplitl [F0]; · iexact F0
    isplitl [F1]; · iexact F1
    isplitl [Q0]; · iexact Q0
    isplitl [Q1]; · iexact Q1
    iexact X2
  iintro ⟨HO, X0, X1, Q0, Q1, F2, Xs1, L1⟩
  iapply (part3 m K c v4 v6) $$ [HO Q0 Q1 dL0 dR0 Tk0 Tk2 X3 Xs1 L1 F2]
  · isplitr; · iexact He
    isplitl [HO]; · iexact HO
    isplitl [Q0]; · iexact Q0
    isplitl [Q1]; · iexact Q1
    isplitl [dL0]; · iexact dL0
    isplitl [dR0]; · iexact dR0
    isplitl [Tk0]; · iexact Tk0
    isplitl [Tk2]; · iexact Tk2
    isplitl [X3]; · iexact X3
    isplitl [Xs1]; · iexact Xs1
    isplitl [L1]; · iexact L1
    iexact F2
  iintro ⟨HO, H0K, S0, S2, F3, X2, Xs0, L0⟩
  iapply (part4 m K c v4 v6) $$ [HO Q2 Q3 F3 dL5 Tk1]
  · isplitr; · iexact He
    isplitl [HO]; · iexact HO
    isplitl [Q2]; · iexact Q2
    isplitl [Q3]; · iexact Q3
    isplitl [F3]; · iexact F3
    isplitl [dL5]; · iexact dL5
    iexact Tk1
  iintro ⟨HO, H5K, H5B, S1, X3, Xs1, L1⟩
  iapply (part5 m K c) $$ [HO H5B dR5 Tk3 W0 W1 Ws0 Ws1 L2 L3 V0]
  · isplitr; · iexact He
    isplitl [HO]; · iexact HO
    isplitl [H5B]; · iexact H5B
    isplitl [dR5]; · iexact dR5
    isplitl [Tk3]; · iexact Tk3
    isplitl [W0]; · iexact W0
    isplitl [W1]; · iexact W1
    isplitl [Ws0]; · iexact Ws0
    isplitl [Ws1]; · iexact Ws1
    isplitl [L2]; · iexact L2
    isplitl [L3]; · iexact L3
    iexact V0
  iintro ⟨HO, S3, W0, Ws0, L2, V0, G1⟩
  iapply (part6 m K c) $$ [HO W2 W3 Ws0 L2 G1 V1]
  · isplitr; · iexact He
    isplitl [HO]; · iexact HO
    isplitl [W2]; · iexact W2
    isplitl [W3]; · iexact W3
    isplitl [Ws0]; · iexact Ws0
    isplitl [L2]; · iexact L2
    isplitl [G1]; · iexact G1
    iexact V1
  iintro ⟨HO, V1, W1, W2, Ws0, L2, G3⟩
  iapply (part7 m K c) $$ [HO V2 V3 W4 W5 Ws0 L2 G3]
  · isplitr; · iexact He
    isplitl [HO]; · iexact HO
    isplitl [V2]; · iexact V2
    isplitl [V3]; · iexact V3
    isplitl [W4]; · iexact W4
    isplitl [W5]; · iexact W5
    isplitl [Ws0]; · iexact Ws0
    isplitl [L2]; · iexact L2
    iexact G3
  iintro ⟨HO, V2, V3, W3, G4, G5⟩
  iapply (part8 m K c) $$ [HO V4 V5 W6 G4 G5]
  · isplitr; · iexact He
    isplitl [HO]; · iexact HO
    isplitl [V4]; · iexact V4
    isplitl [V5]; · iexact V5
    isplitl [W6]; · iexact W6
    isplitl [G4]; · iexact G4
    iexact G5
  iintro ⟨HO, V4, V5, W4, W5, G6, Ws1, L3⟩
  iapply (part9 m K c fullShare fullShare sa sb) $$ [HO V6 V7 W7 G6 Ws1 L3 Sa Sb]
  · isplitr; · iexact He
    isplitl [HO]; · iexact HO
    isplitl [V6]; · iexact V6
    isplitl [V7]; · iexact V7
    isplitl [W7]; · iexact W7
    isplitl [G6]; · iexact G6
    isplitl [Ws1]; · iexact Ws1
    isplitl [L3]; · iexact L3
    isplitl [Sa]; · iexact Sa
    iexact Sb
  iintro ⟨HO, V6, V7, W6, W7, Ws0, Ws1, L2, L3, Sa, Sb⟩
  ihave Wa := (w8_all m c) $$ [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  iapply (part10 m c (scOf sa sb) v2 1024#32) $$ [H0K H5K Wa O0 O1 R0 C0]
  · isplitl [H0K]; · iexact H0K
    isplitl [H5K]; · iexact H5K
    isplitl [Wa]; · iexact Wa
    isplitl [O0]; · iexact O0
    isplitl [O1]; · iexact O1
    isplitl [R0]; · iexact R0
    iexact C0
  iintro ⟨H0K, H5K, Wa, G0, O1⟩
  iapply (part11 m K c (scOf sa sb) v4 v6) $$ [HO O1 R1 C1 Wr0 dD0 dD2 Tk4 Tk5]
  · isplitr; · iexact He
    isplitl [HO]; · iexact HO
    isplitl [O1]; · iexact O1
    isplitl [R1]; · iexact R1
    isplitl [C1]; · iexact C1
    isplitl [Wr0]; · iexact Wr0
    isplitl [dD0]; · iexact dD0
    isplitl [dD2]; · iexact dD2
    isplitl [Tk4]; · iexact Tk4
    iexact Tk5
  iintro ⟨HO, G1, Zr0, rL0, S4, S5⟩
  iapply (part12 m K c (scOf sa sb) v4) $$ [HO rL0 Wa O2 R2 C2 Wr3]
  · isplitr; · iexact He
    isplitl [HO]; · iexact HO
    isplitl [rL0]; · iexact rL0
    isplitl [Wa]; · iexact Wa
    isplitl [O2]; · iexact O2
    isplitl [R2]; · iexact R2
    isplitl [C2]; · iexact C2
    iexact Wr3
  iintro ⟨HO, rL0, Wa, G2, Zr3, rR5⟩
  iapply (part13 m K c (scOf sa sb) v4 v6) $$ [HO rR5 Wa O3 R3 C3 dD5 dD7 Tk6 Tk7]
  · isplitr; · iexact He
    isplitl [HO]; · iexact HO
    isplitl [rR5]; · iexact rR5
    isplitl [Wa]; · iexact Wa
    isplitl [O3]; · iexact O3
    isplitl [R3]; · iexact R3
    isplitl [C3]; · iexact C3
    isplitl [dD5]; · iexact dD5
    isplitl [dD7]; · iexact dD7
    isplitl [Tk6]; · iexact Tk6
    iexact Tk7
  iintro ⟨HO, rR5, Wa, G3, S6, S7⟩
  iapply (part14 m K c (scOf sa sb) v4) $$ [HO Wr1 G0 Wa R4 C4]
  · isplitr; · iexact He
    isplitl [HO]; · iexact HO
    isplitl [Wr1]; · iexact Wr1
    isplitl [G0]; · iexact G0
    isplitl [Wa]; · iexact Wa
    isplitl [R4]; · iexact R4
    iexact C4
  iintro ⟨HO, Zr1, rL5, D0, C0, Wa, G4⟩
  iapply (part15 m K c (scOf sa sb) v6) $$ [HO Wr2 G1 Wa R5 C5]
  · isplitr; · iexact He
    isplitl [HO]; · iexact HO
    isplitl [Wr2]; · iexact Wr2
    isplitl [G1]; · iexact G1
    isplitl [Wa]; · iexact Wa
    isplitl [R5]; · iexact R5
    iexact C5
  iintro ⟨HO, Zr2, rR0, D1, C1, Wa, G5⟩
  iapply (part16 m K c (scOf sa sb) v4 v8) $$ [HO Wr4 G2 Wa R6 C6]
  · isplitr; · iexact He
    isplitl [HO]; · iexact HO
    isplitl [Wr4]; · iexact Wr4
    isplitl [G2]; · iexact G2
    isplitl [Wa]; · iexact Wa
    isplitl [R6]; · iexact R6
    iexact C6
  iintro ⟨HO, Zr4, rD0, D2, C2, Wa, G6, Oh2⟩
  iapply (part17 m K c (scOf sa sb) v6 v8) $$ [HO Wr6 G3 Wa R7 C7]
  · isplitr; · iexact He
    isplitl [HO]; · iexact HO
    isplitl [Wr6]; · iexact Wr6
    isplitl [G3]; · iexact G3
    isplitl [Wa]; · iexact Wa
    isplitl [R7]; · iexact R7
    iexact C7
  iintro ⟨HO, Zr6, rD5, D3, C3, Wa, G7, Oh3⟩
  iapply (part18 m K c (scOf sa sb) v4 v8) $$ [HO Wr5 Wa Oh2 R8 C8 Wr7]
  · isplitr; · iexact He
    isplitl [HO]; · iexact HO
    isplitl [Wr5]; · iexact Wr5
    isplitl [Wa]; · iexact Wa
    isplitl [Oh2]; · iexact Oh2
    isplitl [R8]; · iexact R8
    isplitl [C8]; · iexact C8
    iexact Wr7
  iintro ⟨HO, Zr5, rD2, Wa, G8, Zr7, rD7⟩
  iapply (part19 m K c (scOf sa sb) v8) $$ [HO rD7 Wa Oh3 R9 C9 G4 G5]
  · isplitr; · iexact He
    isplitl [HO]; · iexact HO
    isplitl [rD7]; · iexact rD7
    isplitl [Wa]; · iexact Wa
    isplitl [Oh3]; · iexact Oh3
    isplitl [R9]; · iexact R9
    isplitl [C9]; · iexact C9
    isplitl [G4]; · iexact G4
    iexact G5
  iintro ⟨HO, rD7, Wa, G9, D4, O0, C4, D5, O1, C5⟩
  iapply (part20 m K c (scOf sa sb)) $$ [HO G6 G7 G8 G9 S0 As0]
  · isplitr; · iexact He
    isplitl [HO]; · iexact HO
    isplitl [G6]; · iexact G6
    isplitl [G7]; · iexact G7
    isplitl [G8]; · iexact G8
    isplitl [G9]; · iexact G9
    isplitl [S0]; · iexact S0
    iexact As0
  iintro ⟨HO, D6, Oh20, C6, D7, Oh30, C7, D8, Oh21, C8, D9, Oh31, C9, P0, Zs0⟩
  iapply (part21 m K c) $$ [HO S1 As1 S2 As2 S3 As3 S4 As4 S5 As5]
  · isplitr; · iexact He
    isplitl [HO]; · iexact HO
    isplitl [S1 As1]
    · isplitl [S1]; · iexact S1
      iexact As1
    isplitl [S2 As2]
    · isplitl [S2]; · iexact S2
      iexact As2
    isplitl [S3 As3]
    · isplitl [S3]; · iexact S3
      iexact As3
    isplitl [S4 As4]
    · isplitl [S4]; · iexact S4
      iexact As4
    isplitl [S5]; · iexact S5
    iexact As5
  iintro ⟨HO, P1, Zs1, P2, Zs2, P3, Zs3, P4, Zs4, P5, Zs5⟩
  iapply (step_wait m K c [] (false, 6) rfl (by decide) (dstw := win rR (q256 512)) rfl) $$ [HO S6 As6]
  · isplitr; · iexact He
    isplitl [S6]; · iexact S6
    isplitl [HO]; · iexact HO
    iexact As6
  iintro ⟨P6, HO, Zs6⟩
  ihave P6 := (show pay m c (some (false, 6)) false ⊢ sendPay m c 6 from .rfl) $$ P6
  iapply (step_wait m K c [] (false, 7) rfl (by decide) (dstw := win rR (q256 768)) rfl) $$ [HO S7 As7]
  · isplitr; · iexact He
    isplitl [S7]; · iexact S7
    isplitl [HO]; · iexact HO
    iexact As7
  iintro ⟨P7, HO, Zs7⟩
  ihave P7 := (show pay m c (some (false, 7)) false ⊢ sendPay m c 7 from .rfl) $$ P7
  iapply (go_ret (F := F) c)
  iapply Hk
  isplitl [HO HzB]
  · isplitl [HO]; · iexact HO
    iexact HzB
  isplitl [Zr0 Zr1 Zr2 Zr3 Zr4 Zr5 Zr6 Zr7]
  · isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    iexact Zr7
  isplitl [Zs0 Zs1 Zs2 Zs3 Zs4 Zs5 Zs6 Zs7]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    iexact Zs7
  isplitl [C0 C1 C2 C3 C4 C5 C6 C7 C8 C9]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact C9
  isplitl [L0 L1 L2 L3]
  · isplitl [L0]; · iexact L0
    isplitl [L1]; · iexact L1
    isplitl [L2]; · iexact L2
    iexact L3
  isplitl [X0 X1 X2 X3]
  · isplitl [X0]; · iexact X0
    isplitl [X1]; · iexact X1
    isplitl [X2]; · iexact X2
    iexact X3
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [Sa Sb]
  · isplitl [Sa]; · iexact Sa
    iexact Sb
  isplitl [D0 D1 D2 D3 D4 D5 D6 D7 D8 D9]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    iexact D9
  isplitl [H0K H5K P0 P1 P2 P3]
  · isplitl [H0K H5K]
    · isplitl [H0K]; · iexact H0K
      iexact H5K
    isplitl [P0]; · iexact P0
    isplitl [P1]; · iexact P1
    isplitl [P2]; · iexact P2
    iexact P3
  isplitl [rL0 rL5 P4 P5]
  · isplitl [rL0]; · iexact rL0
    isplitl [rL5]; · iexact rL5
    isplitl [P4]; · iexact P4
    iexact P5
  isplitl [rR5 rR0 P6 P7]
  · isplitl [rR5]; · iexact rR5
    isplitl [rR0]; · iexact rR0
    isplitl [P6]; · iexact P6
    iexact P7
  isplitl [rD0 rD2 rD5 rD7]
  · isplitl [rD0]; · iexact rD0
    isplitl [rD2]; · iexact rD2
    isplitl [rD5]; · iexact rD5
    iexact rD7
  isplitl [Wa]; · iexact Wa
  isplitl [Xs0 Xs1]
  · isplitl [Xs0]; · iexact Xs0
    iexact Xs1
  isplitl [Ws0 Ws1]
  · isplitl [Ws0]; · iexact Ws0
    iexact Ws1
  isplitl [O0 O1]
  · isplitl [O0]; · iexact O0
    iexact O1
  isplitl [Oh20 Oh21]
  · isplitl [Oh20]; · iexact Oh20
    iexact Oh21
  isplitl [Oh30]; · iexact Oh30
  iexact Oh31

end Cert.KProof
end
-- ==== Proof.Core.lean ====
/-
# 01_k — `Core`: the kernel as the pipeline runs it

What each device has before the kernel runs and after it, whole buffer by whole buffer, and that the kernel takes the one to
the other.
-/
module

public import proofs.«01_k».proof.Proof.Body

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Before and after -/

/-- The two scales as the staging buffers have them. -/
def scA : FVec F S1 .f32 := (win0_0.blk (0 : Fin 1)).view.read (Elt F) (m ((c : Thread nD τ).loc main_arg2))
def scB : FVec F S1 .f32 := (win0_1.blk (0 : Fin 1)).view.read (Elt F) (m ((c : Thread nD τ).loc main_arg3))

/-- A device's place in the protocol at the start: where it is with each of its cells, and the tokens of what it pays. -/
def ghost : sProp 𝕄 :=
  iprop(atPos ER (barCell c) 0 ∅ 0 ∗ (bigSep Finset.univ fun i : Fin 8 => atPos ER (sendCell c i) 0 ∅ 0) ∗ (bigSep Finset.univ fun i : Fin 8 => atPos ER (recvCell c i) 0 ∅ 0)
    ∗ dutyTok ER (barCell (prv c)) 0 true ∗ dutyTok ER (barCell (nxt c)) 0 false ∗ bigSep Finset.univ fun i : Fin 8 => tok c i)
/-- The semaphores of the local copies, at rest. -/
def idle : sProp 𝕄 := iprop((bigSep Finset.univ fun t : Fin 10 => copyZero c t) ∗ bigSep Finset.univ fun i : Fin 4 => ldZero c i)
/-- What a device starts from, but for its scratch buffers. -/
def start : sProp 𝕄 :=
  iprop((∃ K, env m K ∗ ghost c ∗ idle c) ∗ cred (tallyAt (barCell c) () 2) ∗ (bigSep Finset.univ fun i : Fin 8 => cred (tallyAt (recvCell c i) () (amt i)))
    ∗ (((c : Thread nD τ).loc main_arg0) ↦{fullShare} xIn m c) ∗ (((c : Thread nD τ).loc main_arg1) ↦{fullShare} wIn m c)
    ∗ (∃ f : Buf (Elt F) ((c : Thread nD τ).loc main_v1), (((c : Thread nD τ).loc main_v1) ↦{fullShare} f)))
/-- The scratch buffers, at any contents. -/
def scratch : sProp 𝕄 := iprop((∃ f : Buf (Elt F) ((c : Thread nD τ).loc cc0_scratch0), (((c : Thread nD τ).loc cc0_scratch0) ↦{fullShare} f)) ∗ (∃ f : Buf (Elt F) ((c : Thread nD τ).loc cc0_scratch1), (((c : Thread nD τ).loc cc0_scratch1) ↦{fullShare} f)) ∗ (∃ f : Buf (Elt F) ((c : Thread nD τ).loc cc0_scratch2), (((c : Thread nD τ).loc cc0_scratch2) ↦{fullShare} f)) ∗ (∃ f : Buf (Elt F) ((c : Thread nD τ).loc cc0_scratch3), (((c : Thread nD τ).loc cc0_scratch3) ↦{fullShare} f)) ∗ (∃ f : Buf (Elt F) ((c : Thread nD τ).loc cc0_scratch4), (((c : Thread nD τ).loc cc0_scratch4) ↦{fullShare} f)) ∗ (∃ f : Buf (Elt F) ((c : Thread nD τ).loc cc0_scratch5), (((c : Thread nD τ).loc cc0_scratch5) ↦{fullShare} f)) ∗ (∃ f : Buf (Elt F) ((c : Thread nD τ).loc cc0_scratch6), (((c : Thread nD τ).loc cc0_scratch6) ↦{fullShare} f)) ∗ (∃ f : Buf (Elt F) ((c : Thread nD τ).loc cc0_scratch7), (((c : Thread nD τ).loc cc0_scratch7) ↦{fullShare} f)))
def Φ₀ : sProp 𝕄 := iprop(start m c ∗ scratch c)
/-- The operands as they were and the result at an array that has every window's product. -/
def results : sProp 𝕄 :=
  iprop((((c : Thread nD τ).loc main_arg0) ↦{fullShare} xIn m c) ∗ (((c : Thread nD τ).loc main_arg1) ↦{fullShare} wIn m c)
    ∗ (∃ G : Buf (Elt F) ((c : Thread nD τ).loc main_v1), ⌜∀ t, cut G (yr c t) = yv m c (scOf (scA m c) (scB m c)) t⌝ ∗ (((c : Thread nD τ).loc main_v1) ↦{fullShare} G)))
/-- Every semaphore of the protocol at rest. -/
def closed : sProp 𝕄 :=
  iprop(semVal (barCell c) 0 ∗ (bigSep Finset.univ fun i : Fin 8 => sendZero c i) ∗ bigSep Finset.univ fun i : Fin 8 => recvZero c i)
def Φ₁ : sProp 𝕄 := iprop(results m c ∗ scratch c ∗ closed c ∗ idle c)

def dats (_ : Fin 1) (c : Dev nD) : Dat τ (Elt F) Unit ℕ UU ℕ cfg0 c where
  A w := m ((cfg0.win w).arr.view.loc (c : Thread nD τ))
  after w _ := match w with
    | ⟨0, _⟩ => scA m c
    | ⟨1, _⟩ => scB m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem r1_set : r1.set = Finset.univ := by decide +kernel

/-- The two staged scales, whole, are what the kernel reads. -/
theorem stage_a (X : FVec F S1 .f32) : (((c : Thread nD τ).loc cc0_stg0_0) ↦{fullShare} X : sProp 𝕄) = owns (c : Thread nD τ) (win aM r1) fullShare (cut X r1) :=
  whole_cut c cc0_stg0_0 r1_set (fun _ => rfl) X
theorem stage_b (X : FVec F S1 .f32) : (((c : Thread nD τ).loc cc0_stg1_0) ↦{fullShare} X : sProp 𝕄) = owns (c : Thread nD τ) (win bM r1) fullShare (cut X r1) :=
  whole_cut c cc0_stg1_0 r1_set (fun _ => rfl) X

/-- The kernel from whole buffers to whole buffers. -/
theorem core_run {Q : PUnit → sProp (MT nD τ sig Unit (Elt F) ℕ UU ℕ)} :
    iprop(Φ₀ m c ∗ (∃ W, owes (c : Thread nD τ) (O₀ c) W)
        ∗ (((c : Thread nD τ).loc cc0_stg0_0) ↦{fullShare} scA m c) ∗ (((c : Thread nD τ).loc cc0_stg1_0) ↦{fullShare} scB m c))
      ⊢ iprop(((Φ₁ m c ∗ (∃ W, owes (c : Thread nD τ) 0 W)
        ∗ (((c : Thread nD τ).loc cc0_stg0_0) ↦{fullShare} scA m c) ∗ (((c : Thread nD τ).loc cc0_stg1_0) ↦{fullShare} scB m c)) -∗ Q ⟨⟩)
        -∗ go c (onArgs (cc0_body (F := F))) Q) := by
  unfold Φ₀ start scratch ghost idle
  rw [x_cut, w_cut, stage_a, stage_b, fin8, fin8, fin8, fin8, fin10, fin4]
  iintro ⟨⟨⟨⟨%K, #He, ⟨HatB, HAs, ⟨A0, A1, A2, A3, A4, A5, A6, A7⟩, HtP, HtN, HTk⟩, HC, HL⟩, HcB, ⟨K0, K1, K2, K3, K4, K5, K6, K7⟩, HX, HW, HY⟩,
    HrL, HrR, HrD, HoV, HxF, Hx8, HwF, Hw8⟩, HO, Ha, Hb⟩ Hk
  ihave Hlend := (r_open (F := F) c) $$ [HrL HrR HrD]
  · isplitl [HrL]; · iexact HrL
    isplitl [HrR]; · iexact HrR
    iexact HrD
  ihave HoV := (oV_open (F := F) c) $$ HoV
  ihave HxF := (xF_open (F := F) c) $$ HxF
  ihave HwF := (wF_open (F := F) c) $$ HwF
  ihave Hx8 := (x8_open (F := F) c) $$ Hx8
  ihave Hw8 := (w8_open (F := F) c) $$ Hw8
  ihave HY := (y_open (F := F) c) $$ HY
  iapply (body_run m K c (scA m c) (scB m c)) $$ [HatB HAs A0 K0 A1 K1 A2 K2 A3 K3 A4 K4 A5 K5 A6 K6 A7 K7 HtP HtN HTk HC HL HcB HX HW HY HO Ha Hb Hlend HoV HxF HwF Hx8 Hw8]
  · isplitr; · iexact He
    isplitl [HO HtP HtN HcB HatB]
    · isplitl [HO]; · iexact HO
      isplitl [HtP]; · iexact HtP
      isplitl [HtN]; · iexact HtN
      isplitl [HcB]; · iexact HcB
      iexact HatB
    isplitl [HTk]; · iexact HTk
    isplitl [A0 K0 A1 K1 A2 K2 A3 K3 A4 K4 A5 K5 A6 K6 A7 K7]
    · isplitl [A0 K0]
      · isplitl [K0]; · iexact K0
        iexact A0
      isplitl [A1 K1]
      · isplitl [K1]; · iexact K1
        iexact A1
      isplitl [A2 K2]
      · isplitl [K2]; · iexact K2
        iexact A2
      isplitl [A3 K3]
      · isplitl [K3]; · iexact K3
        iexact A3
      isplitl [A4 K4]
      · isplitl [K4]; · iexact K4
        iexact A4
      isplitl [A5 K5]
      · isplitl [K5]; · iexact K5
        iexact A5
      isplitl [A6 K6]
      · isplitl [K6]; · iexact K6
        iexact A6
      isplitl [K7]; · iexact K7
      iexact A7
    isplitl [HAs]; · iexact HAs
    isplitl [HC]; · iexact HC
    isplitl [HL]; · iexact HL
    isplitl [Hlend]; · iexact Hlend
    isplitl [HX]; · iexact HX
    isplitl [HW]; · iexact HW
    isplitl [Ha Hb]
    · isplitl [Ha]; · iexact Ha
      iexact Hb
    isplitl [Hx8]; · iexact Hx8
    isplitl [Hw8]; · iexact Hw8
    isplitl [HxF]; · iexact HxF
    isplitl [HwF]; · iexact HwF
    isplitl [HoV]; · iexact HoV
    iexact HY
  iintro ⟨⟨HO, HzB⟩, HZr, HZs, HC, HL, HX, HW, ⟨Ha, Hb⟩, HD, Hx8, HrL, HrR, HrD, Hw8, HxF, HwF, HoV⟩
  ihave HD := (y_close m c (scOf (scA m c) (scB m c))) $$ HD
  ihave Hx8 := (x8_close m c) $$ Hx8
  ihave HrL := (rL_close m c) $$ HrL
  ihave HrR := (rR_close m c) $$ HrR
  ihave HrD := (rD_all m c) $$ HrD
  ihave Hw8 := (w8_close m c) $$ Hw8
  ihave HxF := (xF_any m c) $$ HxF
  ihave HwF := (wF_any m c) $$ HwF
  ihave HoV := (oV_close m c) $$ HoV
  iapply Hk
  unfold Φ₁ results scratch closed idle
  rw [x_cut, w_cut, fin8, fin8, fin10, fin4]
  isplitl [HX HW HD HrL HrR HrD HoV HxF Hx8 HwF Hw8 HzB HZs HZr HC HL]
  · isplitl [HX HW HD]
    · isplitl [HX]; · iexact HX
      isplitl [HW]; · iexact HW
      iexact HD
    isplitl [HrL HrR HrD HoV HxF Hx8 HwF Hw8]
    · isplitl [HrL]; · iexact HrL
      isplitl [HrR]; · iexact HrR
      isplitl [HrD]; · iexact HrD
      isplitl [HoV]; · iexact HoV
      isplitl [HxF]; · iexact HxF
      isplitl [Hx8]; · iexact Hx8
      isplitl [HwF]; · iexact HwF
      iexact Hw8
    isplitl [HzB HZs HZr]
    · isplitl [HzB]; · iexact HzB
      isplitl [HZs]; · iexact HZs
      iexact HZr
    isplitl [HC]; · iexact HC
    iexact HL
  isplitl [HO]
  · unfold due; iexact HO
  isplitl [Ha]; · iexact Ha
  iexact Hb

theorem owns_stage (b : Ref sig .tc) (X : b.ty.Contents (Elt F)) :
    (owns (Ix := Unit) (Name := ℕ) (U := UU) (Lvl := ℕ) (c : Thread nD τ) (Memref.whole b) fullShare X : sProp 𝕄) = (((c : Thread nD τ).loc b) ↦{fullShare} X) :=
  owns_whole (c : Thread nD τ) b fullShare X

theorem before_a (d) : (dats m 0 c).before (0 : Fin 2) t0_0 d = scA m c := by unfold Dat.before; rw [if_pos (fetch0_0 t0_0)]; rfl
theorem before_b (d) : (dats m 0 c).before (1 : Fin 2) t0_0 d = scB m c := by unfold Dat.before; rw [if_pos (fetch0_1 t0_0)]; rfl

/-- What the pipeline runs the kernel from, and what it wants after it. -/
def obIn : sProp 𝕄 := iprop(Φ₀ m c ∗ (dats m 0 c).owesAt () (t0_0 : Fin cfg0.N).castSucc
    ∗ (∃ d, owns (c : Thread nD τ) aM fullShare ((dats m 0 c).before (0 : Fin 2) t0_0 d)) ∗ (∃ d, owns (c : Thread nD τ) bM fullShare ((dats m 0 c).before (1 : Fin 2) t0_0 d)))
def obOut : sProp 𝕄 := iprop(Φ₁ m c ∗ (dats m 0 c).owesAt () (t0_0 : Fin cfg0.N).succ
    ∗ owns (c : Thread nD τ) aM fullShare (scA m c) ∗ owns (c : Thread nD τ) bM fullShare (scB m c))

theorem ob_run : obIn m c ⊢ go c (onArgs (cc0_body (F := F))) (fun _ => obOut m c) := by
  unfold obIn obOut Dat.owesAt Pipeline.owesWithin
  simp only [before_a, before_b, owns_stage]
  rw [show (dats m 0 c).owed (t0_0 : Fin cfg0.N).castSucc = O₀ c from rfl, show (dats m 0 c).owed (t0_0 : Fin cfg0.N).succ = 0 from rfl]
  iintro ⟨HΦ, ⟨%W, %hW, HO⟩, ⟨%d, Ha⟩, ⟨%e, Hb⟩⟩
  iapply (core_run m c) $$ [HΦ HO Ha Hb]
  · isplitl [HΦ]; · iexact HΦ
    isplitl [HO]; · iexists W; iexact HO
    isplitl [Ha]; · iexact Ha
    iexact Hb
  iintro ⟨HΦ, ⟨%W', HO⟩, Ha, Hb⟩
  isplitl [HΦ]; · iexact HΦ
  isplitl [HO]
  · iexists W'
    isplitr; · ipureintro; exact fun _ _ => Or.inl trivial
    iexact HO
  isplitl [Ha]; · iexact Ha
  iexact Hb

set_option maxRecDepth 8000 in
/-- The library's obligation on the body of device `c`. -/
theorem body_obligation : BodyObligation (dats (F := F) m 0 c) (defs₀ (F := F)) 𝒱₀ () Set.univ := fun t => by
  rw [fin_N0 t, bigSep_W0, bigSep_W0]
  exact ob_run m c

end Cert.KProof
end
-- ==== Proof.Launch.lean ====
/-
# 01_k — `Launch`: the run of the kernel on the four devices

The cells of all devices are set up before any kernel runs, their tokens go to the devices that pay them, and the run of
@main follows: it ends, its operands are as they were, every semaphore is at zero, and the result array of each device has
each window's product.
-/
module

public import proofs.«01_k».proof.Proof.Core
public import Idealize.ShloMosaic.Lib.Pipeline.CollectiveSegs

@[expose] public section

noncomputable section

namespace Cert.KProof

open Cert.KernelIdeal Cert.KernelIdeal.Gen Cert.Windows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: send and receive, result copies and loads. -/
abbrev OwnIx : Type := (Fin 8 ⊕ Fin 8) ⊕ (Fin 10 ⊕ Fin 4)
abbrev osem : OwnIx → SemLoc sig
  | .inl (.inl i) => .dma (sendS i)
  | .inl (.inr i) => .dma (recvS i)
  | .inr (.inl i) => .dma (copyS i)
  | .inr (.inr i) => .dma (loadS i)

theorem ownSemFacts : Pipeline.OwnSemFacts cfg0.spec osem := by decide +kernel

theorem kcell_inj : Function.Injective kcell := fun a b h =>
  Prod.ext (congrArg (fun g : GSem nD τ sig => g.1.1) h) (csem_inj (congrArg (fun g : GSem nD τ sig => g.2) h))
def ringCells : Finset (GSem nD τ sig) := Finset.univ.map ⟨kcell, kcell_inj⟩

/-- The duties of a device's cells: two of its barrier cell, one of each copy's cells. -/
abbrev DutyIx : Type := Bool ⊕ (Fin 8 ⊕ Fin 8)
abbrev dcell : DutyIx → CellIx × Bool
  | .inl b => (none, b)
  | .inr (.inl i) => (some (false, i), false)
  | .inr (.inr i) => (some (true, i), false)
theorem dcell_inj : Function.Injective dcell := by decide +kernel
abbrev dtok (cj : Dev nD × DutyIx) : GSem nD τ sig × ℕ × Bool := (kcell (cj.1, (dcell cj.2).1), 0, (dcell cj.2).2)
theorem dtok_inj : Function.Injective dtok := fun a b h => by
  have h₁ := kcell_inj (congrArg (fun x : GSem nD τ sig × ℕ × Bool => x.1) h)
  have h₂ : (dcell a.2).2 = (dcell b.2).2 := congrArg (fun x : GSem nD τ sig × ℕ × Bool => x.2.2) h
  exact Prod.ext (congrArg (fun x : Dev nD × CellIx => x.1) h₁) (dcell_inj (Prod.ext (congrArg (fun x : Dev nD × CellIx => x.2) h₁) h₂))
def ringToks : Finset (GSem nD τ sig × ℕ × Bool) := Finset.univ.map ⟨dtok, dtok_inj⟩

def u₀ : UU :=
  ((initOf (Pipeline.cells cfgs cellOf_inj) (Pipeline.launchToks cfgs cellOf_inj), initOf ringCells ringToks), 1)

/-- The tokens of device `c`'s own cells. -/
def toks (c : Dev nD) : sProp 𝕄 :=
  iprop((dutyTok ER (barCell c) 0 true ∗ dutyTok ER (barCell c) 0 false)
    ∗ (bigSep Finset.univ fun i : Fin 8 => dutyTok ER (sendCell c i) 0 false) ∗ bigSep Finset.univ fun i : Fin 8 => dutyTok ER (recvCell c i) 0 false)
/-- What the launch gives device `c`. -/
def G (c : Dev nD) : sProp 𝕄 :=
  iprop((bigSep Finset.univ fun k : CellIx => roundState ER (ringRd m) (kcell (c, k)) 0)
    ∗ (bigSep Finset.univ fun k : CellIx => reached ER (kcell (c, k)) 0) ∗ (bigSep Finset.univ fun k : CellIx => atPos ER (kcell (c, k)) 0 ∅ 0) ∗ toks c)
/-- Every cell of every device carries the schedule and has begun it. -/
def allCells (K : Dev nD × CellIx → ℕ) : sProp 𝕄 :=
  bigSep Finset.univ fun ck => iprop(cellInv ER (ringRd m) (K ck) (kcell ck) ∗ reached ER (kcell ck) 0)
/-- What the set-up of all devices together makes of it. -/
def G' (c : Dev nD) : sProp 𝕄 := iprop(∃ K, allCells m K ∗ ghost c ∗ idle c)

section Shape
variable (c : Dev nD)

/-- The cells of a device: the barrier cell, the send cells, the receive cells. -/
theorem cells_eq (Φ : CellIx → sProp 𝕄) : bigSep Finset.univ Φ
    = iprop(Φ none ∗ (bigSep Finset.univ fun i : Fin 8 => Φ (some (false, i))) ∗ bigSep Finset.univ fun i : Fin 8 => Φ (some (true, i))) := by
  rw [bigSep_univ_equiv ((Equiv.optionEquivSumPUnit.{0} (Bool × Fin 8)).symm) Φ, bigSep_univ_sum, bigSep_univ_of_subsingleton PUnit.unit,
    bigSep_univ_prod, bigSep_univ_eq_bigSepL [false, true] (by decide) (by decide)]
  exact BI.equiv_iff.mp ⟨BI.sep_comm, BI.sep_comm⟩

theorem ownSems0_eq : (Pipeline.ownSems0 (Ix := Unit) (Name := ℕ) (U := UU) (Lvl := ℕ) (Val := Elt F) (τ := τ) osem c : sProp 𝕄)
    = iprop(((bigSep Finset.univ fun i : Fin 8 => semVal (sendCell c i) 0) ∗ bigSep Finset.univ fun i : Fin 8 => semVal (recvCell c i) 0) ∗ idle c) := by
  unfold Pipeline.ownSems0 idle
  rw [bigSep_univ_sum, bigSep_univ_sum, bigSep_univ_sum]; rfl
theorem unscopedSems0_eq : (unscopedSems0 c : sProp 𝕄) = semVal (barCell c) 0 := by
  unfold unscopedSems0; rw [bigSep_eq_bigSepL_of_eq [SemLoc.reg barS] (by decide) (by decide)]; rfl

end Shape

/-- The launch element gives every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, bigSep_univ_sum, bigSep_univ_eq_bigSepL [true, false] (by decide) (by decide)]; rfl
  have hG : bigSep Finset.univ (G m) = iprop(bigSep ringCells (fun g => roundState ER (ringRd m) g 0) ∗ bigSep ringCells (fun g => reached ER g 0)
      ∗ bigSep ringCells (fun g => atPos ER g 0 ∅ 0) ∗ bigSep ringToks (fun x => (dutyTok ER x.1 x.2.1 x.2.2 : sProp 𝕄))) := by
    rw [hX, hX, hX, hT, ← bigSep_sep', ← bigSep_sep', ← bigSep_sep']; rfl
  rw [hG]
  exact Rounds.fund ER (ringRd m) ringCells ringToks

/-- One device's cells begin their schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (ringRd m) κ (kcell (c, k)) ∗ reached ER (kcell (c, k)) 0))
          ∗ ((bigSep Finset.univ fun k : CellIx => atPos ER (kcell (c, k)) 0 ∅ 0) ∗ idle c) ∗ toks c) := by
  have hcell (k : CellIx) : iprop((semVal (kcell (c, k)) 0 ∗ roundState ER (ringRd m) (kcell (c, k)) 0) ∗ reached ER (kcell (c, k)) 0)
      ⊢ (|={Set.univ}=> iprop(∃ κ : ℕ, cellInv ER (ringRd m) κ (kcell (c, k)) ∗ reached ER (kcell (c, k)) 0) : sProp 𝕄) := by
    iintro ⟨H, Hr⟩
    imod ((Rounds.body_intro ER (ringRd m) (kcell (c, k))).trans inv_alloc) $$ H with ⟨%κ, Hi⟩
    imodintro
    iexists κ
    isplitl [Hi]; · iexact Hi
    iexact Hr
  have hall : iprop((bigSep Finset.univ fun k : CellIx => semVal (kcell (c, k)) 0) ∗ (bigSep Finset.univ fun k : CellIx => roundState ER (ringRd m) (kcell (c, k)) 0)
        ∗ bigSep Finset.univ fun k : CellIx => reached ER (kcell (c, k)) 0)
      ⊢ (|={Set.univ}=> bigSep Finset.univ fun k : CellIx => iprop(∃ κ : ℕ, cellInv ER (ringRd m) κ (kcell (c, k)) ∗ reached ER (kcell (c, k)) 0) : sProp 𝕄) := by
    rw [← bigSep_sep', ← bigSep_sep']
    exact (bigSep_mono fun k _ => BI.sep_assoc'.trans (hcell k)).trans (bigSep_fupd _ _)
  rw [ownSems0_eq, unscopedSems0_eq]
  unfold G
  iintro ⟨⟨⟨HS, HR⟩, Hid⟩, HB, Hst, Hre, Hat, Htok⟩
  imod hall $$ [HS HR HB Hst Hre] with Hinv
  · isplitl [HS HR HB]
    · rw [cells_eq]
      isplitl [HB]; · iexact HB
      isplitl [HS]; · iexact HS
      iexact HR
    isplitl [Hst]; · iexact Hst
    iexact Hre
  imodintro
  isplitl [Hinv]; · iexact Hinv
  isplitl [Hat Hid]
  · isplitl [Hat]; · iexact Hat
    iexact Hid
  iexact Htok

/-- The tokens of the duties device `c` pays. -/
def payToks (c : Dev nD) : sProp 𝕄 :=
  iprop((dutyTok ER (barCell (prv c)) 0 true ∗ dutyTok ER (barCell (nxt c)) 0 false) ∗ bigSep Finset.univ fun i : Fin 8 => tok c i)

/-- The tokens go round: a barrier cell's to its two neighbours, a receive cell's to the device its copy comes from. -/
theorem toks_around : (bigSep Finset.univ fun c : Dev nD => (toks c : sProp 𝕄)) = bigSep Finset.univ fun c : Dev nD => payToks c := by
  have hr : (bigSep Finset.univ fun c : Dev nD => bigSep Finset.univ fun i : Fin 8 => (dutyTok ER (recvCell c i) 0 false : sProp 𝕄))
      = bigSep Finset.univ fun c : Dev nD => bigSep Finset.univ fun i : Fin 8 => dutyTok ER (recvCell (tgt c i) i) 0 false := by
    rw [BI.bigSep_univ_comm, BI.bigSep_univ_comm (fun (c : Dev nD) (i : Fin 8) => (dutyTok ER (recvCell (tgt c i) i) 0 false : sProp 𝕄))]
    exact bigSep_congr fun i _ => bigSep_univ_equiv (around i) fun c : Dev nD => dutyTok ER (recvCell c i) 0 false
  unfold toks payToks
  rw [bigSep_sep', bigSep_sep', bigSep_sep', hr,
    bigSep_univ_equiv ring.symm (fun c : Dev nD => (dutyTok ER (barCell c) 0 true : sProp 𝕄)),
    bigSep_univ_equiv ring (fun c : Dev nD => (dutyTok ER (barCell c) 0 false : sProp 𝕄)),
    ← bigSep_sep', ← bigSep_sep', ← bigSep_sep']
  refine bigSep_congr fun c _ => ?_
  rw [bigSep_sep']; rfl

/-- Knowing `R` throughout, each summand may use it. -/
theorem bigSep_know {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

instance allCells_persistent (K : Dev nD × CellIx → ℕ) : BI.Persistent (allCells m K) := by unfold allCells; infer_instance

theorem ghost_intro (K : Dev nD × CellIx → ℕ) (c : Dev nD) :
    iprop(allCells m K ∗ (((bigSep Finset.univ fun k : CellIx => atPos ER (kcell (c, k)) 0 ∅ 0) ∗ idle c) ∗ payToks c)) ⊢ G' m c := by
  unfold G' ghost payToks
  rw [cells_eq]
  iintro ⟨#HI, ⟨⟨Hb, Hs, Hr⟩, Hid⟩, ⟨Ht, Hf⟩, Hk⟩
  iexists K
  isplitr; · iexact HI
  isplitr [Hid]
  · isplitl [Hb]; · iexact Hb
    isplitl [Hs]; · iexact Hs
    isplitl [Hr]; · iexact Hr
    isplitl [Ht]; · iexact Ht
    isplitl [Hf]; · iexact Hf
    iexact Hk
  iexact Hid

theorem regroup :
    (bigSep Finset.univ fun c : Dev nD => iprop((bigSep Finset.univ fun k : CellIx => iprop(∃ κ : ℕ, cellInv ER (ringRd m) κ (kcell (c, k)) ∗ reached ER (kcell (c, k)) 0))
          ∗ ((bigSep Finset.univ fun k : CellIx => atPos ER (kcell (c, k)) 0 ∅ 0) ∗ idle c) ∗ toks c) : sProp 𝕄)
      ⊢ bigSep Finset.univ (G' m) := by
  rw [bigSep_sep', bigSep_sep', toks_around, ← bigSep_sep',
    ← bigSep_univ_prod (fun ck : Dev nD × CellIx => iprop(∃ κ : ℕ, cellInv ER (ringRd m) κ (kcell ck) ∗ reached ER (kcell ck) 0))]
  iintro ⟨HI, H⟩
  ihave HK := (BI.bigSep_exists_pi Finset.univ (fun (ck : Dev nD × CellIx) (κ : ℕ) => iprop(cellInv ER (ringRd m) κ (kcell ck) ∗ reached ER (kcell ck) 0 : sProp 𝕄))) $$ HI
  icases HK with ⟨%K, HI⟩
  iapply (bigSep_know (R := allCells m K) fun c => ghost_intro m K c)
  isplitl [HI]
  · unfold allCells; iexact HI
  iexact H

/-- All devices' cells are set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem recv_iff {a b : Dev nD} {i j : Fin 8} : recvCell a j = recvCell b i ↔ j = i ∧ a = b := by
  constructor
  · intro h
    have := kcell_inj (a₁ := (a, some (true, j))) (a₂ := (b, some (true, i))) h
    simp only [Prod.mk.injEq, Option.some.injEq, true_and] at this
    exact ⟨this.2, this.1⟩
  · rintro ⟨rfl, rfl⟩; rfl
theorem bar_iff {a b : Dev nD} : barCell a = barCell b ↔ a = b := by
  constructor
  · intro h
    have := kcell_inj (a₁ := (a, none)) (a₂ := (b, none)) h
    simpa using this
  · rintro rfl; rfl
theorem recv_bar {a b : Dev nD} {i : Fin 8} : recvCell a i ≠ barCell b := fun h => by
  have := kcell_inj (a₁ := (a, some (true, i))) (a₂ := (b, none)) h
  simp at this

theorem owed_bar (d c : Dev nD) (l : List (Fin 8)) : owed d l (barCell c) () = 0 := by
  by_contra h
  obtain ⟨i, -, e⟩ := owed_pos (Nat.pos_of_ne_zero h)
  exact recv_bar e.symm

/-- A device owes receive cell `j` of the device its copy `j` goes to, once for each time `j` is still to be issued. -/
theorem owed_recv (d c : Dev nD) (j : Fin 8) (l : List (Fin 8)) : owed d l (recvCell c j) () = if d = org c j then l.count j * amt j else 0 := by
  induction l with
  | nil => simp [owed]
  | cons i l ih =>
    unfold owed
    rw [Pi.add_apply, Finsupp.add_apply, ih, tallyAt_apply]
    by_cases hd : d = org c j
    · subst hd
      rw [if_pos rfl, if_pos rfl]
      by_cases hj : j = i
      · subst hj
        rw [if_pos ⟨by rw [tgt_org], rfl⟩, List.count_cons_self, Nat.add_mul, Nat.one_mul]
      · rw [if_neg fun h => hj (recv_iff.mp h.1).1, List.count_cons_of_ne (Ne.symm hj), Nat.add_zero]
    · rw [if_neg hd, if_neg hd, if_neg fun h => hd ?_]
      obtain ⟨rfl, rfl⟩ := recv_iff.mp h.1
      exact (org_tgt d j).symm

theorem due_bar (d c : Dev nD) : O₀ d (barCell c) () = (if d = prv c then 1 else 0) + (if d = nxt c then 1 else 0) := by
  unfold O₀ O₁
  rw [Pi.add_apply, Finsupp.add_apply, Pi.add_apply, Finsupp.add_apply, owed_bar, tallyAt_apply, tallyAt_apply, Nat.zero_add]
  congr 1
  · by_cases h : d = prv c
    · subst h; rw [nxt_prv, if_pos ⟨rfl, rfl⟩, if_pos rfl]
    · rw [if_neg h, if_neg fun h' => h (by rw [bar_iff.mp h'.1, prv_nxt])]
  · by_cases h : d = nxt c
    · subst h; rw [prv_nxt, if_pos ⟨rfl, rfl⟩, if_pos rfl]
    · rw [if_neg h, if_neg fun h' => h (by rw [bar_iff.mp h'.1, nxt_prv])]

theorem due_recv (d c : Dev nD) (j : Fin 8) : O₀ d (recvCell c j) () = if d = org c j then amt j else 0 := by
  unfold O₀ O₁
  rw [Pi.add_apply, Finsupp.add_apply, Pi.add_apply, Finsupp.add_apply, owed_recv, tallyAt_ne_cell recv_bar, tallyAt_ne_cell recv_bar,
    Finsupp.zero_apply, Nat.add_zero, Nat.add_zero, (by decide : ∀ j : Fin 8, order.count j = 1) j, Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => due_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : Fin 8) :
    tallyOn (recvCell c j) (launchCredit (Pipeline.owing O₀) 0 (recvCell c j)) = (tallyAt (recvCell c j) () (amt j) : CellTallies nD τ sig Unit) := by
  unfold tallyAt; refine congrArg _ (Finsupp.ext fun u => ?_); cases u
  rw [Pipeline.launchCredit_owing, Finsupp.single_eq_same, Finset.sum_congr rfl fun d _ => due_recv d c j,
    Finset.sum_ite_eq' Finset.univ (org c j) fun _ => amt j, if_pos (Finset.mem_univ _)]

/-- A device's credit at launch: its barrier cell's two units and each receive cell's copy. -/
theorem creds (c : Dev nD) :
    (Pipeline.launchCred O₀ c : sProp 𝕄) ⊢ iprop(cred (tallyAt (barCell c) () 2) ∗ bigSep Finset.univ fun i : Fin 8 => cred (tallyAt (recvCell c i) () (amt i))) := by
  unfold Pipeline.launchCred
  refine (bigSep_subset (Finset.subset_univ (Finset.univ.map ⟨csem, csem_inj⟩))).trans ?_
  rw [bigSep_map, cells_eq]
  show iprop(cred (tallyOn (barCell c) (launchCredit (Pipeline.owing O₀) 0 (barCell c)))
    ∗ (bigSep Finset.univ fun i : Fin 8 => cred (tallyOn (sendCell c i) (launchCredit (Pipeline.owing O₀) 0 (sendCell c i))))
    ∗ bigSep Finset.univ fun i : Fin 8 => cred (tallyOn (recvCell c i) (launchCredit (Pipeline.owing O₀) 0 (recvCell c i)))) ⊢ _
  rw [launch_bar, bigSep_congr fun i _ => congrArg cred (launch_recv c i)]
  iintro ⟨HB, -, HR⟩
  isplitl [HB]; · iexact HB
  iexact HR

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  unfold start G' env
  iintro ⟨⟨HX, HW, HY⟩, Hlev, Hcr, -, ⟨%K, HI, HG⟩⟩
  ihave Hc := (creds (F := F) c) $$ Hcr
  icases Hc with ⟨H2, HR⟩
  imodintro
  isplitl
  · isplitl [Hlev HI HG]
    · iexists K
      isplitl [Hlev HI]
      · isplitl [HI]; · unfold allCells; iexact HI
        iexact Hlev
      iexact HG
    isplitl [H2]; · iexact H2
    isplitl [HR]; · iexact HR
    isplitl [HX]; · iexact HX
    isplitl [HW]; · iexact HW
    iexists (m ((c : Thread nD τ).loc main_v1)); iexact HY
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((results m c ∗ unscopedSems0 c) ∗ Pipeline.ownSems0 osem c ∗ Pipeline.scopedRest cfg0.spec c) := by
  rw [show (dats m 0 c).Φ (Fin.last cfg0.N) = Φ₁ m c from rfl, show cfg0.spec = spec0 from rfl, scopedRest0_eq, ownSems0_eq, unscopedSems0_eq]
  unfold Φ₁ closed scratch
  iintro ⟨Hres, Hscr, ⟨HB, HS, HR⟩, Hid⟩
  isplitl [Hres HB]
  · isplitl [Hres]; · iexact Hres
    iexact HB
  isplitl [HS HR Hid]
  · isplitl [HS HR]
    · isplitl [HS]; · iexact HS
      iexact HR
    iexact Hid
  iexact Hscr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a final memory has on device `c`: the operands as at launch and the result array at every window's product. -/
def Ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ ∀ t, cut (s.mem ((c : Thread nD τ).loc main_v1)) (yr c t) = yv m c (scOf (scA m c) (scB m c)) t

theorem whole_read (c : Dev nD) (b : Ref sig .tc) (f : Buf (Elt F) ((c : Thread nD τ).loc b)) (s : Phys nD τ sig (Elt F)) :
    iprop((((c : Thread nD τ).loc b) ↦{fullShare} f) ∗ SI s) ⊢ (iprop(⌜s.mem.mem ((c : Thread nD τ).loc b) = f⌝ ∗ SI s) : sProp 𝕄) := by
  have h := pointsTo_read_all (Ix := Unit) (Name := ℕ) (U := UU) (Lvl := ℕ) (q := fullShare) (Finset.univ : Finset PUnit) (fun _ => (c : Thread nD τ).loc b) (fun _ => f) s
  rw [bigSep_univ_of_subsingleton PUnit.unit] at h
  refine h.trans ?_
  iintro ⟨%e, H⟩
  isplitr; · ipureintro; exact e ⟨⟩ (Finset.mem_univ _)
  iexact H

theorem results_read (c : Dev nD) (s : Phys nD τ sig (Elt F)) : iprop(results m c ∗ SI s) ⊢ (iprop(⌜Ends m c s.mem⌝ ∗ SI s) : sProp 𝕄) := by
  unfold results
  iintro ⟨⟨HX, HW, %G, %hG, HY⟩, HS⟩
  ihave H := (whole_read c main_arg0 (xIn m c) s) $$ [HX HS]
  · isplitl [HX]; · iexact HX
    iexact HS
  icases H with ⟨%h₀, HS⟩
  ihave H := (whole_read c main_arg1 (wIn m c) s) $$ [HW HS]
  · isplitl [HW]; · iexact HW
    iexact HS
  icases H with ⟨%h₁, HS⟩
  ihave H := (whole_read c main_v1 G s) $$ [HY HS]
  · isplitl [HY]; · iexact HY
    iexact HS
  icases H with ⟨%h₂, HS⟩
  isplitr
  · ipureintro
    exact ⟨h₀, h₁, fun t => by rw [h₂]; exact hG t⟩
  iexact HS

set_option maxRecDepth 8000 in
/-- From any memory with all semaphores at zero every weakly fair run of @main on the four devices ends; at the end each
device's operands are as they were, its result array has every window's product, and every semaphore is at zero. -/
theorem run_main : θ_run defs (onTc (τ := τ) (main (F := F))) (s₀ m ρ) (fun r => (∀ c : Dev nD, Ends m c r.2
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨H, -⟩
      ihave H := (own_pair_emb embL _ _) $$ H
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => iprop(results m c ∗ unscopedSems0 c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := fun c s' => by
      iintro ⟨⟨Hr, Hu⟩, -, HSI⟩
      ihave H := (results_read m c s') $$ [Hr HSI]
      · isplitl [Hr]; · iexact Hr
        iexact HSI
      icases H with ⟨%he, HSI⟩
      imod (Pipeline.unscopedSems0_read (X := unscopedSems0 c) (c := c) fupd_intro s') $$ [Hu HSI] with ⟨%hu, HSI⟩
      · isplitl [Hu]; · iexact Hu
        iexact HSI
      imodintro
      isplitr; · ipureintro; exact ⟨he, hu⟩
      iexact HSI)
    (hQ := fun _ h hz => ⟨fun c => ⟨(h c).2.2.1, ((h c).1 0).trans ((dats (F := F) m 0 c).arrAt_in (0 : Fin 2) rfl _),
      ((h c).1 1).trans ((dats (F := F) m 0 c).arrAt_in (1 : Fin 2) rfl _)⟩, sem_eq_zero hz fun c => (h c).2.2.2⟩)

end Cert.KProof
end
-- ==== Proof.Ref.lean ====
/-
# 01_k — `Ref`: the run of the reference

The reference is one device's straight line of eight array operations: the product of the two operands, times the product
of the two scales, the larger of that and zero.
-/
module

public import proofs.«01_k».proof.Proof.Gen.ReferenceIdeal
public import Idealize.ShloMosaic.Lib.StableHlo.Run
public import Idealize.ShloMosaic.Lib.Quiescent

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- What the reference computes of its operands and scales. -/
def refOut (x : FVec F S4096x4096 .f32) (w : FVec F S4096x8192 .f32) (a b : FVec F S1 .f32) : FVec F S4096x8192 .f32 :=
  maximumf (mulf (Host.dotGeneral dot_S4096x4096_S4096x8192_S4096x8192_1_0_0_1_n_n none x w)
      (broadcastInDim S4096x8192 ![0, 1] Facts₀.bcast_S1x1_S4096x8192_0_1 (broadcastInDim S1x1 ![1] Facts₀.bcast_S1_S1x1_1 (mulf a b))))
    (broadcastInDim S4096x8192 ![] Facts₀.bcast_S_S4096x8192 (constant S_ .f32 0x00000000#32))

/-- The operations of @main, in order. -/
abbrev line : List (HloOp τ sig (Elt F)) :=
  [ binary main_arg0 main_arg1 main_v0 (fun l r => Host.dotGeneral dot_S4096x4096_S4096x8192_S4096x8192_1_0_0_1_n_n none l r),
    binary main_arg2 main_arg3 main_v1 mulf,
    unary main_v1 main_v2 (broadcastInDim S1x1 ![1] Facts₀.bcast_S1_S1x1_1),
    unary main_v2 main_v3 (broadcastInDim S4096x8192 ![0, 1] Facts₀.bcast_S1x1_S4096x8192_0_1),
    binary main_v0 main_v3 main_v4 mulf,
    nullary main_cst (constant S_ .f32 0x00000000#32),
    unary main_cst main_v5 (broadcastInDim S4096x8192 ![] Facts₀.bcast_S_S4096x8192),
    binary main_v4 main_v5 main_v6 maximumf ]

theorem main_line (c : Dev nD) : main (F := F) c = seq line := rfl

theorem line_out (V : Valuation τ sig (Elt F)) : after line V (main_v6 : DevRef τ sig)
    = refOut (V (main_arg0 : DevRef τ sig)) (V (main_arg1 : DevRef τ sig)) (V (main_arg2 : DevRef τ sig)) (V (main_arg3 : DevRef τ sig)) := by
  after_results
  rfl
theorem line_arg0 (V : Valuation τ sig (Elt F)) : after line V (main_arg0 : DevRef τ sig) = V (main_arg0 : DevRef τ sig) := by after_results
theorem line_arg1 (V : Valuation τ sig (Elt F)) : after line V (main_arg1 : DevRef τ sig) = V (main_arg1 : DevRef τ sig) := by after_results
theorem line_arg2 (V : Valuation τ sig (Elt F)) : after line V (main_arg2 : DevRef τ sig) = V (main_arg2 : DevRef τ sig) := by after_results
theorem line_arg3 (V : Valuation τ sig (Elt F)) : after line V (main_arg3 : DevRef τ sig) = V (main_arg3 : DevRef τ sig) := by after_results

theorem line_refs : (line : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩

/-- From any memory with all semaphores at zero the reference runs and ends; its result is `refOut` of its arguments, which
are as they were, and every semaphore is at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
          = refOut (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v6).trans (line_out _), (h c main_arg0).trans (line_arg0 _), (h c main_arg1).trans (line_arg1 _),
      (h c main_arg2).trans (line_arg2 _), (h c main_arg3).trans (line_arg3 _)⟩, sem_eq_zero_of_no_sems (by decide) r.2⟩)
    (run_seq (by decide) (by decide) defs main (fun _ => line) main_line (fun _ => line_refs) m ρ)

end Cert.RefRun
end
-- ==== Proof.Value.lean ====
/-
# 01_k — `Value`: the ten windows' products are the reference's result

At the ideal values an entry of a window is the sum over the contracted coordinate, times the scales, or zero if that is
more; so is an entry of the reference's result. Rows of a device's window come from the device named by the rows.
-/
module

public import proofs.«01_k».proof.Proof.Launch
public import proofs.«01_k».proof.Proof.Ref
public import Idealize.ShloMosaic.Lib.StackMember

@[expose] public section

noncomputable section

namespace Cert.KProof

open Cert.KernelIdeal Cert.KernelIdeal.Gen Cert.Windows
open Idealize.ShloMosaic Idealize.ShloMosaic.TcCoe Idealize.ShloMosaic.ValueIdx Idealize.ShloMosaic.StackMember

/-- What is done to a sum of products: the scales, and the larger of that and zero. -/
def post (s y : Ideal .f32) : Ideal .f32 := Scalar.maximumf (Scalar.mulf y s) (Scalar.ofBits .f32 0x00000000#32)

/-- The left operand is in four blocks of rows; the right operand, and the result, in four of columns. -/
theorem tilesX : Layout.Tiles ⟨2, ![1024, 4096]⟩ ⟨2, ![4096, 4096]⟩ 0 4 := by decide
theorem tilesW : Layout.Tiles ⟨2, ![4096, 2048]⟩ ⟨2, ![4096, 8192]⟩ 1 4 := by decide

/-- A product of two matrices scaled and cut off below at zero, entry by entry. -/
def entry {M N : ℕ} (A : (⟨2, ![M, 4096]⟩ : Shape).Idx → EReal) (B : (⟨2, ![4096, N]⟩ : Shape).Idx → EReal) (s : Ideal .f32) (p : Fin M) (q : Fin N) : Ideal .f32 :=
  post s (∑ k : Fin 4096, (A (ix2 p k) * B (ix2 k q) : EReal) : EReal)

/-- The kernel's product of 512 rows, read at an entry; -/
theorem pay15_entry (s : Ideal .f32) (A : Vec Ideal S512x4096 .fp8e4m3) (B : Vec Ideal S4096x2048 .fp8e5m2) (p : Fin 512) (q : Fin 2048) :
    shapeCast S512x2048 (k0_pay15 (F := Ideal) s A B) castW' (ix2 p q) = entry (M := 512) (N := 2048) A B s p q := by
  unfold k0_pay15
  rw [shapeCast_shapeCast, matmul_zero_eq_dotGeneral]
  exact congrArg (post s) (dotGeneral_plain_apply none A B p q)

/-- and of 256 rows. -/
theorem pay21_entry (s : Ideal .f32) (A : Vec Ideal S256x4096 .fp8e4m3) (B : Vec Ideal S4096x2048 .fp8e5m2) (p : Fin 256) (q : Fin 2048) :
    shapeCast S256x2048 (k0_pay21 (F := Ideal) s A B) castO' (ix2 p q) = entry (M := 256) (N := 2048) A B s p q := by
  unfold k0_pay21
  rw [shapeCast_shapeCast, matmul_zero_eq_dotGeneral]
  exact congrArg (post s) (dotGeneral_plain_apply none A B p q)

/-- An array of one element has one index. -/
theorem one_idx (i j : S1.Idx) : i = j :=
  funext fun a => Fin.ext (by
    have hi : (i a).val < 1 := by fin_cases a; exact (i 0).isLt
    have hj : (j a).val < 1 := by fin_cases a; exact (j 0).isLt
    omega)

/-- The reference's result, read at an entry. -/
theorem refOut_entry (x : FVec Ideal Cert.ReferenceIdeal.S4096x4096 .f32) (w : FVec Ideal Cert.ReferenceIdeal.S4096x8192 .f32) (a b : FVec Ideal S1 .f32)
    (i : S1.Idx) (p : Fin 4096) (q : Fin 8192) :
    Cert.RefRun.refOut (F := Ideal) x w a b (ix2 p q) = entry (M := 4096) (N := 8192) x w (Scalar.mulf (a i) (b i)) p q := by
  have e : ∀ j : S1.Idx, mulf a b j = Scalar.mulf (a i) (b i) := fun j => by rw [one_idx j i]; rfl
  refine (congrArg (fun t => post t _) (e _)).trans ?_
  exact congrArg (post _) (dotGeneral_plain_apply none x w p q)

/-- Two entries are the same when the row of the one is the row of the other, and the column the column. -/
theorem entry_congr {M N M' N' : ℕ} (A : (⟨2, ![M, 4096]⟩ : Shape).Idx → EReal) (B : (⟨2, ![4096, N]⟩ : Shape).Idx → EReal)
    (A' : (⟨2, ![M', 4096]⟩ : Shape).Idx → EReal) (B' : (⟨2, ![4096, N']⟩ : Shape).Idx → EReal) (s s' : Ideal .f32) (p : Fin M) (q : Fin N) (p' : Fin M') (q' : Fin N')
    (ha : ∀ k : Fin 4096, (A (ix2 p k) : EReal) = A' (ix2 p' k)) (hb : ∀ k : Fin 4096, (B (ix2 k q) : EReal) = B' (ix2 k q')) (hs : s = s') :
    entry A B s p q = entry A' B' s' p' q' := by
  subst hs
  unfold entry
  refine congrArg (post s) ?_
  exact Finset.sum_congr rfl fun k _ => congrArg₂ (fun u v : EReal => u * v) (ha k) (hb k)

section
variable (m : (ℓ : Loc nD τ sig) → Buf (Elt Ideal) ℓ) (c : Dev nD)
variable (x : FVec Ideal Cert.ReferenceIdeal.S4096x4096 .f32) (w : FVec Ideal Cert.ReferenceIdeal.S4096x8192 .f32) (a b : FVec Ideal S1 .f32)

/-- The staged scales are the scales. -/
theorem scA_one (i j : S1.Idx) : scA m c i = (m ((c : Thread nD τ).loc main_arg2) : FVec Ideal S1 .f32) j :=
  congrArg (m ((c : Thread nD τ).loc main_arg2) : FVec Ideal S1 .f32) (one_idx _ j)
theorem scB_one (i j : S1.Idx) : scB m c i = (m ((c : Thread nD τ).loc main_arg3) : FVec Ideal S1 .f32) j :=
  congrArg (m ((c : Thread nD τ).loc main_arg3) : FVec Ideal S1 .f32) (one_idx _ j)
theorem sc_one (i : S1.Idx) : scOf (scA m c) (scB m c)
    = Scalar.mulf ((m ((c : Thread nD τ).loc main_arg2) : FVec Ideal S1 .f32) i) ((m ((c : Thread nD τ).loc main_arg3) : FVec Ideal S1 .f32) i) :=
  congrArg₂ (Scalar.mulf (F := Ideal)) (scA_one m c _ i) (scB_one m c _ i)

variable (hx : ∀ d : Dev nD, (m ((d : Thread nD τ).loc main_arg0) : FVec Ideal S1024x4096 .f32) = Layout.block ⟨2, ![1024, 4096]⟩ ⟨2, ![4096, 4096]⟩ 0 4 d x tilesX)
variable (hw : (m ((c : Thread nD τ).loc main_arg1) : FVec Ideal S4096x2048 .f32) = Layout.block ⟨2, ![4096, 2048]⟩ ⟨2, ![4096, 8192]⟩ 1 4 c w tilesW)
variable (ha : (m ((c : Thread nD τ).loc main_arg2) : FVec Ideal S1 .f32) = a) (hb : (m ((c : Thread nD τ).loc main_arg3) : FVec Ideal S1 .f32) = b)

include hx in
/-- A row of a device's operand is the whole operand's row 1024 further along for each device before it. -/
theorem x_entry (d : Dev nD) (i : S1024x4096.Idx) (p : Fin 4096) (k : Fin 4096) (hp : p.val = 1024 * d.val + (i 0).val) (hk : (i 1).val = k.val) :
    (xIn m d i : EReal) = x (ix2 p k) := by
  refine (congrFun (hx d) i).trans (congrArg x (funext fun t => Fin.ext ?_))
  match t with
  | 0 => exact (show _ = d.val * 1024 + (i 0).val from rfl).trans (by rw [Nat.mul_comm]; exact hp.symm)
  | 1 => exact hk
include hw in
/-- A column of a device's operand is the whole operand's column 2048 further along for each device before it. -/
theorem w_entry (i : S4096x2048.Idx) (k : Fin 4096) (q : Fin 8192) (hk : (i 0).val = k.val) (hq : q.val = 2048 * c.val + (i 1).val) :
    (wIn m c i : EReal) = w (ix2 k q) := by
  refine (congrFun hw i).trans (congrArg w (funext fun t => Fin.ext ?_))
  match t with
  | 0 => exact hk
  | 1 => exact (show _ = c.val * 2048 + (i 1).val from rfl).trans (by rw [Nat.mul_comm]; exact hq.symm)

/-- The reference's result, a device's block of its columns. -/
abbrev outBlock : FVec Ideal S4096x2048 .f32 := Layout.block ⟨2, ![4096, 2048]⟩ ⟨2, ![4096, 8192]⟩ 1 4 c (Cert.RefRun.refOut (F := Ideal) x w a b) tilesW

theorem outBlock_entry (i : S4096x2048.Idx) (u : S1.Idx) : outBlock c x w a b i
    = entry (M := 4096) (N := 8192) x w (Scalar.mulf (a u) (b u)) (i 0) ⟨2048 * c.val + (i 1).val, by have := (i 1).isLt; have := c.isLt; change (i 1).val < 2048 at *; change c.val < 4 at *; omega⟩ := by
  refine Eq.trans (congrArg (Cert.RefRun.refOut (F := Ideal) x w a b) (funext fun t => Fin.ext ?_)) (refOut_entry x w a b u _ _)
  match t with
  | 0 => rfl
  | 1 => exact (show _ = c.val * 2048 + (i 1).val from rfl).trans (congrArg (· + (i 1).val) (Nat.mul_comm _ _))

include hw ha hb in
/-- An entry of a device's block of the reference's result, from rows of the left operand that are the whole operand's row there. -/
theorem rows_value {M : ℕ} (A : (⟨2, ![M, 4096]⟩ : Shape).Idx → EReal) (p : Fin M) (q : Fin 2048) (i : S4096x2048.Idx)
    (hA : ∀ k : Fin 4096, A (ix2 p k) = x (ix2 (i 0) k)) (hi : (i 1).val = q.val) :
    outBlock c x w a b i = entry (M := M) (N := 2048) A (cut (W8 m c) wAll) (scOf (scA m c) (scB m c)) p q := by
  refine (outBlock_entry c x w a b _ (Shape.Idx.first (numel1_S1.symm ▸ Nat.one_pos))).trans (Eq.symm ?_)
  refine entry_congr _ _ _ _ _ _ p q _ _ hA (fun k => w_entry m c w hw _ k _ ?_ ?_) ?_
  · show 0 + 1 * k.val = k.val; omega
  · show 2048 * c.val + (i 1).val = 2048 * c.val + (0 + 1 * q.val); omega
  · rw [sc_one m c, ha, hb]

include hx hw ha hb

/-- A window of 512 rows has the reference's entries; -/
theorem t512_value (d : Dev nD) (r : ℕ) (hr) {off : Fin 2 → ℕ} {h} (e : off = ![1024 * d.val + r, 0]) :
    cut (outBlock c x w a b) (t512 off h) = V5 m c (scOf (scA m c) (scB m c)) d r hr := by
  subst e
  funext j
  obtain ⟨p, q, rfl⟩ : ∃ (p : Fin 512) (q : Fin 2048), j = ix2 p q := ⟨j 0, j 1, eq_ix2 j⟩
  refine (rows_value m c x w a b hw ha hb _ p q _ (fun k => x_entry m x hx d _ _ k ?_ ?_) ?_).trans (pay15_entry _ _ _ p q).symm
  · show 1024 * d.val + r + 1 * p.val = 1024 * d.val + (r + 1 * p.val); omega
  · show 0 + 1 * k.val = k.val; omega
  · show 0 + 1 * q.val = q.val; omega

/-- and a window of 256 rows. -/
theorem t256_value (d : Dev nD) (r : ℕ) (hr) {off : Fin 2 → ℕ} {h} (e : off = ![1024 * d.val + r, 0]) :
    cut (outBlock c x w a b) (t256 off h) = V2 m c (scOf (scA m c) (scB m c)) d r hr := by
  subst e
  funext j
  obtain ⟨p, q, rfl⟩ : ∃ (p : Fin 256) (q : Fin 2048), j = ix2 p q := ⟨j 0, j 1, eq_ix2 j⟩
  refine (rows_value m c x w a b hw ha hb _ p q _ (fun k => x_entry m x hx d _ _ k ?_ ?_) ?_).trans (pay21_entry _ _ _ p q).symm
  · show 1024 * d.val + r + 1 * p.val = 1024 * d.val + (r + 1 * p.val); omega
  · show 0 + 1 * k.val = k.val; omega
  · show 0 + 1 * q.val = q.val; omega

/-- Every window of a device's block of the reference's result is what the kernel leaves there. -/
theorem yr_value (t : Fin 10) : cut (outBlock c x w a b) (yr c t) = yv m c (scOf (scA m c) (scB m c)) t := by
  match t with
  | 0 => exact t512_value m c x w a b hx hw ha hb c 0 _ (h := k0_off1_inb c) (k0_off1_eq c)
  | 1 => exact t512_value m c x w a b hx hw ha hb c 512 _ (h := k0_off2_inb c) (k0_off2_eq c)
  | 2 => exact t512_value m c x w a b hx hw ha hb (prv c) 0 _ (h := k0_off3_inb c 1) (k0_off3_eq c 1)
  | 3 => exact t512_value m c x w a b hx hw ha hb (nxt c) 512 _ (h := k0_off4_inb c 0) (k0_off4_eq c 0)
  | 4 => exact t512_value m c x w a b hx hw ha hb (prv c) 512 _ (h := k0_off4_inb c 1) (k0_off4_eq c 1)
  | 5 => exact t512_value m c x w a b hx hw ha hb (nxt c) 0 _ (h := k0_off3_inb c 0) (k0_off3_eq c 0)
  | 6 => exact t256_value m c x w a b hx hw ha hb (opp c) 0 _ (h := k0_off5_inb c) (k0_off5_eq c)
  | 7 => exact t256_value m c x w a b hx hw ha hb (opp c) 512 _ (h := k0_off6_inb c 1) (k0_off6_eq c 1)
  | 8 => exact t256_value m c x w a b hx hw ha hb (opp c) 256 _ (h := k0_off6_inb c 0) (k0_off6_eq c 0)
  | 9 => exact t256_value m c x w a b hx hw ha hb (opp c) 768 _ (h := k0_off6_inb c 2) (k0_off6_eq c 2)

/-- An array with every window as the kernel leaves it is the device's block of the reference's result. -/
theorem out_value (G : FVec Ideal S4096x2048 .f32) (hG : ∀ t, cut G (yr c t) = yv m c (scOf (scA m c) (scB m c)) t) : G = outBlock c x w a b := by
  funext i
  obtain ⟨t, -, ht⟩ := Finset.mem_biUnion.mp ((yr_cover c).symm ▸ Finset.mem_univ i)
  rw [← Rect.map_emb_univ] at ht
  obtain ⟨j, -, rfl⟩ := Finset.mem_map.mp ht
  exact congrFun ((hG t).trans (yr_value m c x w a b hx hw ha hb t).symm) j

end

end Cert.KProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs' tables of bodies are the same: there is one body, and its text is the same. -/
theorem table₀ [hK : Cert.Kernel.Facts] [hI : Cert.KernelIdeal.Facts] : Cert.Kernel.defs₀ (F := Bits) = Cert.KernelIdeal.defs₀ (F := Bits) :=
  congrArg (Defs.onTc (nD := nD) (τ := τ) (sig := sig) (Val := Elt Bits) (Λ := Λ₀)) (funext fun l => by
    match l with
    | 0 => exact funext fun _ => rfl)
/-- So are the tables with the staging of the operands. -/
theorem table [hK : Cert.Kernel.Facts] [hI : Cert.KernelIdeal.Facts] : Cert.Kernel.defs (F := Bits) = Cert.KernelIdeal.defs (F := Bits) :=
  congrArg (Pipeline.defs (pcfgs (F := Bits))) table₀

/-- The kernel's own run ends, its operands are as they were, and every semaphore is at zero: the program read at bit-level floats. -/
theorem frame_kernel : Cert.quiescent_Kernel (hKernel := Cert.Kernel.Gen.facts) := fun m ρ _ =>
  (congrArg (fun D => θ_run D (onTc (τ := τ) (main (F := Bits))) ⟨m, fun _ => 0, ρ⟩ _) table).mpr
    ((θ_run Cert.KernelIdeal.defs _ _).mono (fun _ h => ⟨fun c => ⟨(h.1 c).1.1, (h.1 c).1.2.1, (h.1 c).2.1, (h.1 c).2.2⟩, h.2⟩) (Cert.KProof.run_main (F := Bits) m ρ))

/-- The same at the ideal values. -/
theorem frame_ideal : Cert.quiescent_KernelIdeal (hKernelIdeal := Cert.KernelIdeal.Gen.facts) := fun m ρ _ =>
  (θ_run Cert.KernelIdeal.defs _ _).mono (fun _ h => ⟨fun c => ⟨(h.1 c).1.1, (h.1 c).1.2.1, (h.1 c).2.1, (h.1 c).2.2⟩, h.2⟩) (Cert.KProof.run_main (F := Ideal) m ρ)

/-- The reference's run ends, its operands are as they were, and every semaphore is at zero. -/
theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.RefRun.run_main (F := Ideal) m ρ)

/-- At the ideal values each device's result is its block of columns of the reference's result. -/
theorem value : Cert.algebraic_KernelIdeal_ReferenceIdeal (hKernelIdeal := Cert.KernelIdeal.Gen.facts) (hReferenceIdeal := Cert.ReferenceIdeal.Gen.facts) := fun m ρ m' ρ' _ hin =>
  ⟨_, (θ_run Cert.KernelIdeal.defs _ _).mono
      (fun r h c => ⟨Cert.KProof.out_value m c _ _ _ _ (fun d => (hin d).1) (hin c).2.1 (hin c).2.2.1 (hin c).2.2.2 _ (h.1 c).1.2.2,
        (h.1 c).1.1, (h.1 c).1.2.1, (h.1 c).2.1, (h.1 c).2.2⟩)
      (Cert.KProof.run_main (F := Ideal) m ρ),
    (θ_run Cert.ReferenceIdeal.defs _ _).mono (fun _ h => h.1 0) (Cert.RefRun.run_main (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
